-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal_on_written [hKernelIdeal : Cert.KernelIdeal.Facts] [hReferenceIdeal : Cert.ReferenceIdeal.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)) (v3 : (c : Dev Cert.KernelIdeal.nD) → Buf (Elt Ideal) ((c.tc : Thread Cert.KernelIdeal.nD Cert.KernelIdeal.τ).loc Cert.KernelIdeal.main_v58_3)) (v4 : (c : Dev Cert.KernelIdeal.nD) → Buf (Elt Ideal) ((c.tc : Thread Cert.KernelIdeal.nD Cert.KernelIdeal.τ).loc Cert.KernelIdeal.main_v58_4)) (v5 : (c : Dev Cert.KernelIdeal.nD) → Buf (Elt Ideal) ((c.tc : Thread Cert.KernelIdeal.nD Cert.KernelIdeal.τ).loc Cert.KernelIdeal.main_v58_5)) (v6 : (c : Dev Cert.KernelIdeal.nD) → Buf (Elt Ideal) ((c.tc : Thread Cert.KernelIdeal.nD Cert.KernelIdeal.τ).loc Cert.KernelIdeal.main_v58_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 7680]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v58_0) i = v0 c i)
          ∧ (∀ i : (⟨2, ![4096, 256]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v58_1) i = v1 c i)
          ∧ (∀ i : (⟨2, ![4096, 256]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v58_2) i = v2 c i)
          ∧ (∀ i : (⟨2, ![4096, 256]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.KernelIdeal.nD Cert.KernelIdeal.τ).loc Cert.KernelIdeal.main_v58_3) i = v3 c i)
          ∧ (∀ i : (⟨2, ![4096, 256]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.KernelIdeal.nD Cert.KernelIdeal.τ).loc Cert.KernelIdeal.main_v58_4) i = v4 c i)
          ∧ (∀ i : (⟨2, ![1024, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.KernelIdeal.nD Cert.KernelIdeal.τ).loc Cert.KernelIdeal.main_v58_5) i = v5 c i)
          ∧ (∀ i : (⟨3, ![4, 256, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 i = 1#1 → r.2.mem ((c.tc : Thread Cert.KernelIdeal.nD Cert.KernelIdeal.τ).loc Cert.KernelIdeal.main_v58_6) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 7680]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v49) i = v0 c i)
          ∧ (∀ i : (⟨2, ![4096, 256]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v41) i = v1 c i)
          ∧ (∀ i : (⟨2, ![4096, 256]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v43) i = v2 c i)
          ∧ (∀ i : (⟨2, ![4096, 256]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.ReferenceIdeal.nD Cert.ReferenceIdeal.τ).loc Cert.ReferenceIdeal.main_v45) i = v3 c i)
          ∧ (∀ i : (⟨2, ![4096, 256]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.ReferenceIdeal.nD Cert.ReferenceIdeal.τ).loc Cert.ReferenceIdeal.main_v47) i = v4 c i)
          ∧ (∀ i : (⟨2, ![1024, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.ReferenceIdeal.nD Cert.ReferenceIdeal.τ).loc Cert.ReferenceIdeal.main_v28) i = v5 c i)
          ∧ (∀ i : (⟨3, ![4, 256, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 i = 1#1 → r.2.mem ((c.tc : Thread Cert.ReferenceIdeal.nD Cert.ReferenceIdeal.τ).loc Cert.ReferenceIdeal.main_v39) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_on_written2 [hKernel2Ideal : Cert.Kernel2Ideal.Facts] [hReference2Ideal : Cert.Reference2Ideal.Facts] [hOn_written2 : Cert.On_written2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![1024, 7680]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 i = 1#1 → r.2.mem ((c.tc : Thread Cert.Kernel2Ideal.nD Cert.Kernel2Ideal.τ).loc Cert.Kernel2Ideal.main_v14_0) i = v0 c i)
          ∧ (∀ i : (⟨2, ![1024, 128]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2 i = 1#1 → r.2.mem ((c.tc : Thread Cert.Kernel2Ideal.nD Cert.Kernel2Ideal.τ).loc Cert.Kernel2Ideal.main_v14_1) i = v1 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![1024, 7680]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 i = 1#1 → r.2.mem ((c.tc : Thread Cert.Reference2Ideal.nD Cert.Reference2Ideal.τ).loc Cert.Reference2Ideal.main_v42) i = v0 c i)
          ∧ (∀ i : (⟨2, ![1024, 128]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2 i = 1#1 → r.2.mem ((c.tc : Thread Cert.Reference2Ideal.nD Cert.Reference2Ideal.τ).loc Cert.Reference2Ideal.main_v43) i = v1 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)) (v2 : (c : Dev Cert.Kernel3Ideal.nD) → Buf (Elt Ideal) ((c.tc : Thread Cert.Kernel3Ideal.nD Cert.Kernel3Ideal.τ).loc Cert.Kernel3Ideal.main_v18_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_v18_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v27) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v18_0)) (v1 : (c : Dev Cert.Kernel5Ideal.nD) → Buf (Elt Ideal) ((c.tc : Thread Cert.Kernel5Ideal.nD Cert.Kernel5Ideal.τ).loc Cert.Kernel5Ideal.main_v19)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18_0) = v0 c
          ∧ r.2.mem ((c.tc : Thread Cert.Kernel5Ideal.nD Cert.Kernel5Ideal.τ).loc Cert.Kernel5Ideal.main_v19) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v52) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v4) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v50) = v1 c
          ∧ r.2.mem ((c.tc : Thread Cert.Reference6Ideal.nD Cert.Reference6Ideal.τ).loc Cert.Reference6Ideal.main_v36) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v5)) (v1 : (c : Dev Cert.Kernel7Ideal.nD) → Buf (Elt Ideal) ((c.tc : Thread Cert.Kernel7Ideal.nD Cert.Kernel7Ideal.τ).loc Cert.Kernel7Ideal.main_v6)) (v2 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_v6) = v1 c
          ∧ r.2.mem ((c.tc : Thread Cert.Kernel7Ideal.nD Cert.Kernel7Ideal.τ).loc Cert.Kernel7Ideal.main_v7) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v5)) (v1 : (c : Dev Cert.Kernel8Ideal.nD) → Buf (Elt Ideal) ((c.tc : Thread Cert.Kernel8Ideal.nD Cert.Kernel8Ideal.τ).loc Cert.Kernel8Ideal.main_v6)) (v2 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_v6) = v1 c
          ∧ r.2.mem ((c.tc : Thread Cert.Kernel8Ideal.nD Cert.Kernel8Ideal.τ).loc Cert.Kernel8Ideal.main_v7) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v5)) (v1 : (c : Dev Cert.Kernel9Ideal.nD) → Buf (Elt Ideal) ((c.tc : Thread Cert.Kernel9Ideal.nD Cert.Kernel9Ideal.τ).loc Cert.Kernel9Ideal.main_v6)) (v2 : (c : Dev Cert.Kernel9Ideal.nD) → Buf (Elt Ideal) ((c.tc : Thread Cert.Kernel9Ideal.nD Cert.Kernel9Ideal.τ).loc Cert.Kernel9Ideal.main_v7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_v6) = v1 c
          ∧ r.2.mem ((c.tc : Thread Cert.Kernel9Ideal.nD Cert.Kernel9Ideal.τ).loc Cert.Kernel9Ideal.main_v7) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hOn_written : Cert.On_written.Facts) (hOn_written2 : Cert.On_written2.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_on_written (hKernelIdeal := hKernelIdeal) (hReferenceIdeal := hReferenceIdeal) (hOn_written := hOn_written)
    ∧ preserves_Kernel2_Kernel2Ideal
    ∧ algebraic_Kernel2Ideal_Reference2Ideal_on_written2 (hKernel2Ideal := hKernel2Ideal) (hReference2Ideal := hReference2Ideal) (hOn_written2 := hOn_written2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== On_written.lean ====
abbrev S4096x1024 : Shape := ⟨2, ![4096, 1024]⟩
abbrev S4096x7680 : Shape := ⟨2, ![4096, 7680]⟩
abbrev S4096x256 : Shape := ⟨2, ![4096, 256]⟩
abbrev S4x256x1024 : Shape := ⟨3, ![4, 256, 1024]⟩
abbrev S1024x1024 : Shape := ⟨2, ![1024, 1024]⟩
abbrev S_ : Shape := ⟨0, ![]⟩

class Facts : Prop where
  bcast_S_S4096x7680 : S_.BroadcastsInDim S4096x7680 (![] : Fin 0 → Fin S4096x7680.rank)
  bcast_S_S4096x256 : S_.BroadcastsInDim S4096x256 (![] : Fin 0 → Fin S4096x256.rank)
  bcast_S_S1024x1024 : S_.BroadcastsInDim S1024x1024 (![] : Fin 0 → Fin S1024x1024.rank)
  bcast_S_S4x256x1024 : S_.BroadcastsInDim S4x256x1024 (![] : Fin 0 → Fin S4x256x1024.rank)

variable [Facts]

def fn {F : FTy → Type} [FloatOps F] (main_arg0 : FVec F S4096x1024 .f32) (main_arg1 : FVec F S4096x7680 .f32) (main_arg2 : FVec F S4096x256 .bf16) (main_arg3 : FVec F S4096x256 .bf16) (main_arg4 : FVec F S4096x256 .bf16) (main_arg5 : FVec F S4096x256 .bf16) (main_arg6 : FVec F S4x256x1024 .bf16) (main_arg7 : FVec F S1024x1024 .bf16) : IVec S4096x7680 1 × IVec S4096x256 1 × IVec S4096x256 1 × IVec S4096x256 1 × IVec S4096x256 1 × IVec S1024x1024 1 × IVec S4x256x1024 1 :=
  let main_v0 : IVec S4096x7680 32 := iotaInDim S4096x7680 32 1
  let main_c : IVec S_ 32 := constantI S_ 32 4096#32
  let main_v1 : IVec S4096x7680 32 := broadcastInDim S4096x7680 ![] bcast_S_S4096x7680 main_c
  let main_v2 : IVec S4096x7680 1 := cmpi .slt main_v0 main_v1
  let main_c_0 : IVec S_ 1 := constantI S_ 1 1#1
  let main_v3 : IVec S4096x256 1 := broadcastInDim S4096x256 ![] bcast_S_S4096x256 main_c_0
  let main_c_1 : IVec S_ 1 := constantI S_ 1 1#1
  let main_v4 : IVec S4096x256 1 := broadcastInDim S4096x256 ![] bcast_S_S4096x256 main_c_1
  let main_c_2 : IVec S_ 1 := constantI S_ 1 1#1
  let main_v5 : IVec S4096x256 1 := broadcastInDim S4096x256 ![] bcast_S_S4096x256 main_c_2
  let main_c_3 : IVec S_ 1 := constantI S_ 1 1#1
  let main_v6 : IVec S4096x256 1 := broadcastInDim S4096x256 ![] bcast_S_S4096x256 main_c_3
  let main_c_4 : IVec S_ 1 := constantI S_ 1 1#1
  let main_v7 : IVec S1024x1024 1 := broadcastInDim S1024x1024 ![] bcast_S_S1024x1024 main_c_4
  let main_c_5 : IVec S_ 1 := constantI S_ 1 1#1
  let main_v8 : IVec S4x256x1024 1 := broadcastInDim S4x256x1024 ![] bcast_S_S4x256x1024 main_c_5
  (main_v2, main_v3, main_v4, main_v5, main_v6, main_v7, main_v8)
-- ==== On_written2.lean ====
abbrev S4096x1024 : Shape := ⟨2, ![4096, 1024]⟩
abbrev S1024 : Shape := ⟨1, ![1024]⟩
abbrev S4096x7680 : Shape := ⟨2, ![4096, 7680]⟩
abbrev S4096x128 : Shape := ⟨2, ![4096, 128]⟩
abbrev S_ : Shape := ⟨0, ![]⟩
abbrev S1024x7680 : Shape := ⟨2, ![1024, 7680]⟩
abbrev S1024x128 : Shape := ⟨2, ![1024, 128]⟩

class Facts : Prop where
  bcast_S_S1024x7680 : S_.BroadcastsInDim S1024x7680 (![] : Fin 0 → Fin S1024x7680.rank)
  bcast_S_S1024x128 : S_.BroadcastsInDim S1024x128 (![] : Fin 0 → Fin S1024x128.rank)

variable [Facts]

def fn {F : FTy → Type} [FloatOps F] (main_arg0 : FVec F S4096x1024 .f32) (main_arg1 : FVec F S1024 .f32) (main_arg2 : FVec F S4096x7680 .bf16) (main_arg3 : FVec F S4096x128 .bf16) : IVec S1024x7680 1 × IVec S1024x128 1 :=
  let main_c : IVec S_ 1 := constantI S_ 1 1#1
  let main_v0 : IVec S1024x7680 1 := broadcastInDim S1024x7680 ![] bcast_S_S1024x7680 main_c
  let main_v1 : IVec S1024x128 32 := iotaInDim S1024x128 32 1
  let main_c_0 : IVec S_ 32 := constantI S_ 32 4#32
  let main_v2 : IVec S1024x128 32 := broadcastInDim S1024x128 ![] bcast_S_S1024x128 main_c_0
  let main_v3 : IVec S1024x128 1 := cmpi .slt main_v1 main_v2
  (main_v0, main_v3)
-- ==== Kernel.lean ====
abbrev S4096x1024 : Shape := ⟨2, ![4096, 1024]⟩
abbrev S4096x7680 : Shape := ⟨2, ![4096, 7680]⟩
abbrev S4096x256 : Shape := ⟨2, ![4096, 256]⟩
abbrev S4x256x1024 : Shape := ⟨3, ![4, 256, 1024]⟩
abbrev S1024x1024 : Shape := ⟨2, ![1024, 1024]⟩
abbrev S_ : Shape := ⟨0, ![]⟩
abbrev S1x256x1024 : Shape := ⟨3, ![1, 256, 1024]⟩
abbrev S256x1024 : Shape := ⟨2, ![256, 1024]⟩
abbrev S256x4096 : Shape := ⟨2, ![256, 4096]⟩
abbrev S256x256 : Shape := ⟨2, ![256, 256]⟩

abbrev nBuf : Space → Nat
  | .hbm => 82
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x7680, .f32⟩
  | .hbm, ⟨2, _⟩ => ⟨S4096x256, .bf16⟩
  | .hbm, ⟨3, _⟩ => ⟨S4096x256, .bf16⟩
  | .hbm, ⟨4, _⟩ => ⟨S4096x256, .bf16⟩
  | .hbm, ⟨5, _⟩ => ⟨S4096x256, .bf16⟩
  | .hbm, ⟨6, _⟩ => ⟨S4x256x1024, .bf16⟩
  | .hbm, ⟨7, _⟩ => ⟨S1024x1024, .bf16⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x256, .f32⟩
  | .hbm, ⟨20, _⟩ => ⟨S1x256x1024, .bf16⟩
  | .hbm, ⟨21, _⟩ => ⟨S256x1024, .bf16⟩
  | .hbm, ⟨22, _⟩ => ⟨S256x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x256, .f32⟩
  | .hbm, ⟨36, _⟩ => ⟨S1x256x1024, .bf16⟩
  | .hbm, ⟨37, _⟩ => ⟨S256x1024, .bf16⟩
  | .hbm, ⟨38, _⟩ => ⟨S256x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x256, .f32⟩
  | .hbm, ⟨52, _⟩ => ⟨S1x256x1024, .bf16⟩
  | .hbm, ⟨53, _⟩ => ⟨S256x1024, .bf16⟩
  | .hbm, ⟨54, _⟩ => ⟨S256x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S4096x256, .f32⟩
  | .hbm, ⟨68, _⟩ => ⟨S1x256x1024, .bf16⟩
  | .hbm, ⟨69, _⟩ => ⟨S256x1024, .bf16⟩
  | .hbm, ⟨70, _⟩ => ⟨S256x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .bf16⟩
  | .hbm, ⟨75, _⟩ => ⟨S4096x7680, .bf16⟩
  | .hbm, ⟨76, _⟩ => ⟨S4096x256, .f32⟩
  | .hbm, ⟨77, _⟩ => ⟨S4096x256, .f32⟩
  | .hbm, ⟨78, _⟩ => ⟨S4096x256, .f32⟩
  | .hbm, ⟨79, _⟩ => ⟨S4096x256, .f32⟩
  | .hbm, ⟨80, _⟩ => ⟨S1024x1024, .f32⟩
  | .hbm, ⟨81, _⟩ => ⟨S4x256x1024, .f32⟩
  | .local _ .vmem, ⟨0, _⟩ => ⟨S256x1024, .f32⟩
  | .local _ .vmem, ⟨1, _⟩ => ⟨S256x1024, .f32⟩
  | .local _ .vmem, ⟨2, _⟩ => ⟨S256x4096, .f32⟩
  | .local _ .vmem, ⟨3, _⟩ => ⟨S256x4096, .f32⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x1024, .bf16⟩
  | .local _ .vmem, ⟨13, _⟩ => ⟨S256x1024, .bf16⟩
  | .local _ .vmem, ⟨14, _⟩ => ⟨S4x256x1024, .bf16⟩
  | .local _ .vmem, ⟨15, _⟩ => ⟨S1024x1024, .bf16⟩
  | .local _ .vmem, ⟨16, _⟩ => ⟨S256x4096, .bf16⟩
  | .local _ .vmem, ⟨17, _⟩ => ⟨S256x4096, .bf16⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S1024x1024, .f32⟩
  | .local _ .vmem, ⟨27, _⟩ => ⟨S4x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58_0 : Ref sig .tc := ⟨.hbm, 75, rfl⟩
abbrev main_v58_1 : Ref sig .tc := ⟨.hbm, 76, rfl⟩
abbrev main_v58_2 : Ref sig .tc := ⟨.hbm, 77, rfl⟩
abbrev main_v58_3 : Ref sig .tc := ⟨.hbm, 78, rfl⟩
abbrev main_v58_4 : Ref sig .tc := ⟨.hbm, 79, rfl⟩
abbrev main_v58_5 : Ref sig .tc := ⟨.hbm, 80, rfl⟩
abbrev main_v58_6 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S4096x1024 : Shape := ⟨2, ![4096, 1024]⟩
abbrev S4096x7680 : Shape := ⟨2, ![4096, 7680]⟩
abbrev S4096x256 : Shape := ⟨2, ![4096, 256]⟩
abbrev S4x256x1024 : Shape := ⟨3, ![4, 256, 1024]⟩
abbrev S1024x1024 : Shape := ⟨2, ![1024, 1024]⟩
abbrev S4096x4096 : Shape := ⟨2, ![4096, 4096]⟩
abbrev S4096x1x256 : Shape := ⟨3, ![4096, 1, 256]⟩
abbrev S4096x4x256 : Shape := ⟨3, ![4096, 4, 256]⟩
abbrev S4x1024x4096 : Shape := ⟨3, ![4, 1024, 4096]⟩
abbrev S4096x4x1024 : Shape := ⟨3, ![4096, 4, 1024]⟩
abbrev S_ : Shape := ⟨0, ![]⟩
abbrev S4x4096x256 : Shape := ⟨3, ![4, 4096, 256]⟩
abbrev S4x1024x256 : Shape := ⟨3, ![4, 1024, 256]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x7680, .f32⟩
  | .hbm, ⟨2, _⟩ => ⟨S4096x256, .bf16⟩
  | .hbm, ⟨3, _⟩ => ⟨S4096x256, .bf16⟩
  | .hbm, ⟨4, _⟩ => ⟨S4096x256, .bf16⟩
  | .hbm, ⟨5, _⟩ => ⟨S4096x256, .bf16⟩
  | .hbm, ⟨6, _⟩ => ⟨S4x256x1024, .bf16⟩
  | .hbm, ⟨7, _⟩ => ⟨S1024x1024, .bf16⟩
  | .hbm, ⟨8, _⟩ => ⟨S4096x4096, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S4x256x1024, .f32⟩
  | .hbm, ⟨14, _⟩ => ⟨S1024x1024, .f32⟩
  | .hbm, ⟨15, _⟩ => ⟨S4096x1x256, .f32⟩
  | .hbm, ⟨16, _⟩ => ⟨S4096x1x256, .f32⟩
  | .hbm, ⟨17, _⟩ => ⟨S4096x1x256, .f32⟩
  | .hbm, ⟨18, _⟩ => ⟨S4096x1x256, .f32⟩
  | .hbm, ⟨19, _⟩ => ⟨S4096x4x256, .f32⟩
  | .hbm, ⟨20, _⟩ => ⟨S4x1024x4096, .f32⟩
  | .hbm, ⟨21, _⟩ => ⟨S4096x4x1024, .f32⟩
  | .hbm, ⟨22, _⟩ => ⟨S4096x4x1024, .f32⟩
  | .hbm, ⟨23, _⟩ => ⟨S4096x4x1024, .f32⟩
  | .hbm, ⟨24, _⟩ => ⟨S4096x4x1024, .f32⟩
  | .hbm, ⟨25, _⟩ => ⟨S_, .f32⟩
  | .hbm, ⟨26, _⟩ => ⟨S4096x4x1024, .f32⟩
  | .hbm, ⟨27, _⟩ => ⟨S4096x4x1024, .f32⟩
  | .hbm, ⟨28, _⟩ => ⟨S_, .f32⟩
  | .hbm, ⟨29, _⟩ => ⟨S4096x4x1024, .f32⟩
  | .hbm, ⟨30, _⟩ => ⟨S4096x4x1024, .f32⟩
  | .hbm, ⟨31, _⟩ => ⟨S_, .f32⟩
  | .hbm, ⟨32, _⟩ => ⟨S4096x4x1024, .f32⟩
  | .hbm, ⟨33, _⟩ => ⟨S4096x4x1024, .f32⟩
  | .hbm, ⟨34, _⟩ => ⟨S4096x4x1024, .f32⟩
  | .hbm, ⟨35, _⟩ => ⟨S4096x4x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S1024x1024, .f32⟩
  | .hbm, ⟨40, _⟩ => ⟨S1024x1024, .f32⟩
  | .hbm, ⟨41, _⟩ => ⟨S4096x1024, .f32⟩
  | .hbm, ⟨42, _⟩ => ⟨S4096x4x1024, .f32⟩
  | .hbm, ⟨43, _⟩ => ⟨S4096x4x1024, .f32⟩
  | .hbm, ⟨44, _⟩ => ⟨S4096x4x1024, .f32⟩
  | .hbm, ⟨45, _⟩ => ⟨S4096x4x1024, .f32⟩
  | .hbm, ⟨46, _⟩ => ⟨S4096x4096, .f32⟩
  | .hbm, ⟨47, _⟩ => ⟨S4x1024x4096, .f32⟩
  | .hbm, ⟨48, _⟩ => ⟨S4x4096x256, .f32⟩
  | .hbm, ⟨49, _⟩ => ⟨S4096x4x256, .f32⟩
  | .hbm, ⟨50, _⟩ => ⟨S4x1024x256, .f32⟩
  | .hbm, ⟨51, _⟩ => ⟨S4x256x1024, .f32⟩
  | .hbm, ⟨52, _⟩ => ⟨S4096x1x256, .f32⟩
  | .hbm, ⟨53, _⟩ => ⟨S4096x256, .f32⟩
  | .hbm, ⟨54, _⟩ => ⟨S4096x1x256, .f32⟩
  | .hbm, ⟨55, _⟩ => ⟨S4096x256, .f32⟩
  | .hbm, ⟨56, _⟩ => ⟨S4096x1x256, .f32⟩
  | .hbm, ⟨57, _⟩ => ⟨S4096x256, .f32⟩
  | .hbm, ⟨58, _⟩ => ⟨S4096x1x256, .f32⟩
  | .hbm, ⟨59, _⟩ => ⟨S4096x256, .f32⟩
  | .hbm, ⟨60, _⟩ => ⟨S4096x4096, .bf16⟩
  | .hbm, ⟨61, _⟩ => ⟨S_, .bf16⟩
  | .hbm, ⟨62, _⟩ => ⟨S4096x7680, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_3 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S4096x7680 : Shape := ⟨2, ![4096, 7680]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x7680 : Shape := ⟨2, ![1024, 7680]⟩
abbrev S1024x128 : Shape := ⟨2, ![1024, 128]⟩
abbrev S1024x1024 : Shape := ⟨2, ![1024, 1024]⟩
abbrev S1024x1536 : Shape := ⟨2, ![1024, 1536]⟩

abbrev nBuf : Space → Nat
  | .hbm => 23
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x7680, .bf16⟩
  | .hbm, ⟨3, _⟩ => ⟨S4096x128, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1024x7680, .bf16⟩
  | .hbm, ⟨22, _⟩ => ⟨S1024x128, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x128, .bf16⟩
  | .local _ .vmem, ⟨5, _⟩ => ⟨S1024x128, .bf16⟩
  | .local _ .vmem, ⟨6, _⟩ => ⟨S1024x1536, .bf16⟩
  | .local _ .vmem, ⟨7, _⟩ => ⟨S1024x1536, .bf16⟩
  | .local _ .vmem, ⟨8, _⟩ => ⟨S1024x128, .bf16⟩
  | .local _ .vmem, ⟨9, _⟩ => ⟨S1024x1536, .f32⟩
  | .local _ .vmem, ⟨10, _⟩ => ⟨S1024x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![5, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def k0_cond5 (i : grid0.Coords) : BitVec 1 :=
  let arg0 : BitVec 32 := BitVec.ofNat 32 (i 0).val
  let c0_i32_14 : BitVec 32 := 0#32
  let v23 : BitVec 1 := Scalar.cmpi .eq arg0 c0_i32_14
  let arg1 : BitVec 32 := BitVec.ofNat 32 (i 1).val
  let c3_i32_15 : BitVec 32 := 3#32
  let v24 : BitVec 1 := Scalar.cmpi .eq arg1 c3_i32_15
  let v25 : BitVec 1 := Scalar.andi v23 v24
  let v26 : BitVec 32 := Scalar.extui v25
  let c0_i32_16 : BitVec 32 := 0#32
  let v27 : BitVec 1 := Scalar.cmpi .ne v26 c0_i32_16
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference2Ideal.lean ====
abbrev S4096x1024 : Shape := ⟨2, ![4096, 1024]⟩
abbrev S1024 : Shape := ⟨1, ![1024]⟩
abbrev S4096x7680 : Shape := ⟨2, ![4096, 7680]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x7684 : Shape := ⟨2, ![1024, 7684]⟩
abbrev S4096x7684 : Shape := ⟨2, ![4096, 7684]⟩
abbrev S4096x4096 : Shape := ⟨2, ![4096, 4096]⟩
abbrev S4096x768 : Shape := ⟨2, ![4096, 768]⟩
abbrev S4096x512 : Shape := ⟨2, ![4096, 512]⟩
abbrev S4096x256 : Shape := ⟨2, ![4096, 256]⟩
abbrev S4096x4 : Shape := ⟨2, ![4096, 4]⟩
abbrev S7684x1024 : Shape := ⟨2, ![7684, 1024]⟩
abbrev S1024x512 : Shape := ⟨2, ![1024, 512]⟩
abbrev S1024x256 : Shape := ⟨2, ![1024, 256]⟩
abbrev S1024x768 : Shape := ⟨2, ![1024, 768]⟩
abbrev S1024x4 : Shape := ⟨2, ![1024, 4]⟩
abbrev S1024x4096 : Shape := ⟨2, ![1024, 4096]⟩
abbrev S1024x7680 : Shape := ⟨2, ![1024, 7680]⟩
abbrev S1024x128 : Shape := ⟨2, ![1024, 128]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x7680, .bf16⟩
  | .hbm, ⟨3, _⟩ => ⟨S4096x128, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1024x7684, .f32⟩
  | .hbm, ⟨22, _⟩ => ⟨S4096x7684, .f32⟩
  | .hbm, ⟨23, _⟩ => ⟨S4096x7680, .f32⟩
  | .hbm, ⟨24, _⟩ => ⟨S4096x128, .f32⟩
  | .hbm, ⟨25, _⟩ => ⟨S4096x4096, .f32⟩
  | .hbm, ⟨26, _⟩ => ⟨S4096x768, .f32⟩
  | .hbm, ⟨27, _⟩ => ⟨S4096x768, .f32⟩
  | .hbm, ⟨28, _⟩ => ⟨S4096x512, .f32⟩
  | .hbm, ⟨29, _⟩ => ⟨S4096x512, .f32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S4096x4, .f32⟩
  | .hbm, ⟨35, _⟩ => ⟨S4096x7684, .f32⟩
  | .hbm, ⟨36, _⟩ => ⟨S7684x1024, .f32⟩
  | .hbm, ⟨37, _⟩ => ⟨S1024x7684, .f32⟩
  | .hbm, ⟨38, _⟩ => ⟨S1024x512, .f32⟩
  | .hbm, ⟨39, _⟩ => ⟨S1024x256, .f32⟩
  | .hbm, ⟨40, _⟩ => ⟨S1024x768, .f32⟩
  | .hbm, ⟨41, _⟩ => ⟨S1024x4, .f32⟩
  | .hbm, ⟨42, _⟩ => ⟨S1024x256, .f32⟩
  | .hbm, ⟨43, _⟩ => ⟨S1024x768, .f32⟩
  | .hbm, ⟨44, _⟩ => ⟨S1024x256, .f32⟩
  | .hbm, ⟨45, _⟩ => ⟨S1024x512, .f32⟩
  | .hbm, ⟨46, _⟩ => ⟨S1024x256, .f32⟩
  | .hbm, ⟨47, _⟩ => ⟨S1024x4096, .f32⟩
  | .hbm, ⟨48, _⟩ => ⟨S1024x7680, .f32⟩
  | .hbm, ⟨49, _⟩ => ⟨S_, .i32⟩
  | .hbm, ⟨50, _⟩ => ⟨S_, .f32⟩
  | .hbm, ⟨51, _⟩ => ⟨S1024x128, .f32⟩
  | .hbm, ⟨52, _⟩ => ⟨S1024x7680, .bf16⟩
  | .hbm, ⟨53, _⟩ => ⟨S1024x128, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_c : Ref sig .tc := ⟨.hbm, 49, rfl⟩
abbrev main_call0_v0 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x7684 : Shape := ⟨2, ![1024, 7684]⟩
abbrev S1024x1921 : Shape := ⟨2, ![1024, 1921]⟩
abbrev S1x1024 : Shape := ⟨2, ![1, 1024]⟩
abbrev S1024x254 : Shape := ⟨2, ![1024, 254]⟩
abbrev S1024x768 : Shape := ⟨2, ![1024, 768]⟩
abbrev S1024x125 : Shape := ⟨2, ![1024, 125]⟩
abbrev S1024x643 : Shape := ⟨2, ![1024, 643]⟩
abbrev S1024x512 : Shape := ⟨2, ![1024, 512]⟩
abbrev S1024x256 : Shape := ⟨2, ![1024, 256]⟩
abbrev S1024x7680 : Shape := ⟨2, ![1024, 7680]⟩
abbrev S1024x4 : Shape := ⟨2, ![1024, 4]⟩
abbrev S_ : Shape := ⟨0, ![]⟩
abbrev S1024x128 : Shape := ⟨2, ![1024, 128]⟩
abbrev S4096x7680 : Shape := ⟨2, ![4096, 7680]⟩
abbrev S4096x128 : Shape := ⟨2, ![4096, 128]⟩
abbrev S256x1024 : Shape := ⟨2, ![256, 1024]⟩
abbrev S256x7680 : Shape := ⟨2, ![256, 7680]⟩
abbrev S256x128 : Shape := ⟨2, ![256, 128]⟩
abbrev S256 : Shape := ⟨1, ![256]⟩
abbrev S256x1 : Shape := ⟨2, ![256, 1]⟩

abbrev nBuf : Space → Nat
  | .hbm => 26
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x7684, .bf16⟩
  | .hbm, ⟨3, _⟩ => ⟨S1024x1921, .bf16⟩
  | .hbm, ⟨4, _⟩ => ⟨S1024x1921, .bf16⟩
  | .hbm, ⟨5, _⟩ => ⟨S1024x1921, .bf16⟩
  | .hbm, ⟨6, _⟩ => ⟨S1024x1921, .bf16⟩
  | .hbm, ⟨7, _⟩ => ⟨S1x1024, .f32⟩
  | .hbm, ⟨8, _⟩ => ⟨S1024x254, .bf16⟩
  | .hbm, ⟨9, _⟩ => ⟨S1024x768, .bf16⟩
  | .hbm, ⟨10, _⟩ => ⟨S1024x125, .bf16⟩
  | .hbm, ⟨11, _⟩ => ⟨S1024x643, .bf16⟩
  | .hbm, ⟨12, _⟩ => ⟨S1024x512, .bf16⟩
  | .hbm, ⟨13, _⟩ => ⟨S1024x512, .bf16⟩
  | .hbm, ⟨14, _⟩ => ⟨S1024x256, .bf16⟩
  | .hbm, ⟨15, _⟩ => ⟨S1024x256, .bf16⟩
  | .hbm, ⟨16, _⟩ => ⟨S1024x256, .bf16⟩
  | .hbm, ⟨17, _⟩ => ⟨S1024x256, .bf16⟩
  | .hbm, ⟨18, _⟩ => ⟨S1024x7680, .bf16⟩
  | .hbm, ⟨19, _⟩ => ⟨S1024x4, .bf16⟩
  | .hbm, ⟨20, _⟩ => ⟨S_, .i32⟩
  | .hbm, ⟨21, _⟩ => ⟨S_, .bf16⟩
  | .hbm, ⟨22, _⟩ => ⟨S1024x128, .bf16⟩
  | .hbm, ⟨23, _⟩ => ⟨S4096x7680, .f32⟩
  | .hbm, ⟨24, _⟩ => ⟨S4096x128, .f32⟩
  | .hbm, ⟨25, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x7680, .bf16⟩
  | .local _ .vmem, ⟨4, _⟩ => ⟨S1024x128, .bf16⟩
  | .local _ .vmem, ⟨5, _⟩ => ⟨S256x7680, .f32⟩
  | .local _ .vmem, ⟨6, _⟩ => ⟨S256x7680, .f32⟩
  | .local _ .vmem, ⟨7, _⟩ => ⟨S256x128, .f32⟩
  | .local _ .vmem, ⟨8, _⟩ => ⟨S256x128, .f32⟩
  | .local _ .vmem, ⟨9, _⟩ => ⟨S256x1024, .bf16⟩
  | .local _ .vmem, ⟨10, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_call0_v0 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev main_v18_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x7680 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x7680 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S4096x1024 : Shape := ⟨2, ![4096, 1024]⟩
abbrev S1024 : Shape := ⟨1, ![1024]⟩
abbrev S1024x7684 : Shape := ⟨2, ![1024, 7684]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x7684 : Shape := ⟨2, ![4096, 7684]⟩
abbrev S4096x512 : Shape := ⟨2, ![4096, 512]⟩
abbrev S4096x256 : Shape := ⟨2, ![4096, 256]⟩
abbrev S4096x768 : Shape := ⟨2, ![4096, 768]⟩
abbrev S4096x4 : Shape := ⟨2, ![4096, 4]⟩
abbrev S4096x4096 : Shape := ⟨2, ![4096, 4096]⟩
abbrev S4096x7680 : Shape := ⟨2, ![4096, 7680]⟩
abbrev S4096x128 : Shape := ⟨2, ![4096, 128]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x7684, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x7684, .f32⟩
  | .hbm, ⟨20, _⟩ => ⟨S4096x7684, .f32⟩
  | .hbm, ⟨21, _⟩ => ⟨S4096x512, .f32⟩
  | .hbm, ⟨22, _⟩ => ⟨S4096x256, .f32⟩
  | .hbm, ⟨23, _⟩ => ⟨S4096x768, .f32⟩
  | .hbm, ⟨24, _⟩ => ⟨S4096x4, .f32⟩
  | .hbm, ⟨25, _⟩ => ⟨S4096x256, .f32⟩
  | .hbm, ⟨26, _⟩ => ⟨S4096x768, .f32⟩
  | .hbm, ⟨27, _⟩ => ⟨S4096x256, .f32⟩
  | .hbm, ⟨28, _⟩ => ⟨S4096x512, .f32⟩
  | .hbm, ⟨29, _⟩ => ⟨S4096x256, .f32⟩
  | .hbm, ⟨30, _⟩ => ⟨S4096x4096, .f32⟩
  | .hbm, ⟨31, _⟩ => ⟨S4096x7680, .f32⟩
  | .hbm, ⟨32, _⟩ => ⟨S_, .i32⟩
  | .hbm, ⟨33, _⟩ => ⟨S_, .f32⟩
  | .hbm, ⟨34, _⟩ => ⟨S4096x128, .f32⟩
  | .hbm, ⟨35, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_call0_v0 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel4.lean ====
abbrev S4096x1024 : Shape := ⟨2, ![4096, 1024]⟩
abbrev S4096x7680 : Shape := ⟨2, ![4096, 7680]⟩
abbrev S4096x256 : Shape := ⟨2, ![4096, 256]⟩
abbrev S4x256x1024 : Shape := ⟨3, ![4, 256, 1024]⟩
abbrev S1024x1024 : Shape := ⟨2, ![1024, 1024]⟩
abbrev S512x1024 : Shape := ⟨2, ![512, 1024]⟩
abbrev S512x4096 : Shape := ⟨2, ![512, 4096]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 10
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x7680, .f32⟩
  | .hbm, ⟨2, _⟩ => ⟨S4096x256, .bf16⟩
  | .hbm, ⟨3, _⟩ => ⟨S4096x256, .bf16⟩
  | .hbm, ⟨4, _⟩ => ⟨S4096x256, .bf16⟩
  | .hbm, ⟨5, _⟩ => ⟨S4096x256, .bf16⟩
  | .hbm, ⟨6, _⟩ => ⟨S4x256x1024, .bf16⟩
  | .hbm, ⟨7, _⟩ => ⟨S1024x1024, .bf16⟩
  | .hbm, ⟨8, _⟩ => ⟨S4096x1024, .f32⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x4096, .f32⟩
  | .local _ .vmem, ⟨3, _⟩ => ⟨S512x4096, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S4x256x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4096x1024 : Shape := ⟨2, ![4096, 1024]⟩
abbrev S4096x7680 : Shape := ⟨2, ![4096, 7680]⟩
abbrev S4096x256 : Shape := ⟨2, ![4096, 256]⟩
abbrev S4x256x1024 : Shape := ⟨3, ![4, 256, 1024]⟩
abbrev S1024x1024 : Shape := ⟨2, ![1024, 1024]⟩
abbrev S4096x1x256 : Shape := ⟨3, ![4096, 1, 256]⟩
abbrev S4096x4x256 : Shape := ⟨3, ![4096, 4, 256]⟩
abbrev S4x1024x4096 : Shape := ⟨3, ![4, 1024, 4096]⟩
abbrev S4096x4x1024 : Shape := ⟨3, ![4096, 4, 1024]⟩
abbrev S4096x4096 : Shape := ⟨2, ![4096, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x7680, .f32⟩
  | .hbm, ⟨2, _⟩ => ⟨S4096x256, .bf16⟩
  | .hbm, ⟨3, _⟩ => ⟨S4096x256, .bf16⟩
  | .hbm, ⟨4, _⟩ => ⟨S4096x256, .bf16⟩
  | .hbm, ⟨5, _⟩ => ⟨S4096x256, .bf16⟩
  | .hbm, ⟨6, _⟩ => ⟨S4x256x1024, .bf16⟩
  | .hbm, ⟨7, _⟩ => ⟨S1024x1024, .bf16⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x1x256, .f32⟩
  | .hbm, ⟨13, _⟩ => ⟨S4096x1x256, .f32⟩
  | .hbm, ⟨14, _⟩ => ⟨S4096x1x256, .f32⟩
  | .hbm, ⟨15, _⟩ => ⟨S4096x1x256, .f32⟩
  | .hbm, ⟨16, _⟩ => ⟨S4096x4x256, .f32⟩
  | .hbm, ⟨17, _⟩ => ⟨S4x256x1024, .f32⟩
  | .hbm, ⟨18, _⟩ => ⟨S4x1024x4096, .f32⟩
  | .hbm, ⟨19, _⟩ => ⟨S4096x4x1024, .f32⟩
  | .hbm, ⟨20, _⟩ => ⟨S4096x4096, .f32⟩
  | .hbm, ⟨21, _⟩ => ⟨S4096x4x1024, .f32⟩
  | .hbm, ⟨22, _⟩ => ⟨S4096x4x1024, .f32⟩
  | .hbm, ⟨23, _⟩ => ⟨S4096x4x1024, .f32⟩
  | .hbm, ⟨24, _⟩ => ⟨S_, .f32⟩
  | .hbm, ⟨25, _⟩ => ⟨S4096x4x1024, .f32⟩
  | .hbm, ⟨26, _⟩ => ⟨S4096x4x1024, .f32⟩
  | .hbm, ⟨27, _⟩ => ⟨S_, .f32⟩
  | .hbm, ⟨28, _⟩ => ⟨S4096x4x1024, .f32⟩
  | .hbm, ⟨29, _⟩ => ⟨S4096x4x1024, .f32⟩
  | .hbm, ⟨30, _⟩ => ⟨S4096x4x1024, .f32⟩
  | .hbm, ⟨31, _⟩ => ⟨S_, .f32⟩
  | .hbm, ⟨32, _⟩ => ⟨S4096x1024, .f32⟩
  | .hbm, ⟨33, _⟩ => ⟨S1024x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x7684 : Shape := ⟨2, ![1024, 7684]⟩
abbrev S4096x7680 : Shape := ⟨2, ![4096, 7680]⟩
abbrev S4096x128 : Shape := ⟨2, ![4096, 128]⟩
abbrev S1024x1921 : Shape := ⟨2, ![1024, 1921]⟩
abbrev S1024x254 : Shape := ⟨2, ![1024, 254]⟩
abbrev S1024x768 : Shape := ⟨2, ![1024, 768]⟩
abbrev S1024x125 : Shape := ⟨2, ![1024, 125]⟩
abbrev S1024x643 : Shape := ⟨2, ![1024, 643]⟩
abbrev S1024x512 : Shape := ⟨2, ![1024, 512]⟩
abbrev S1024x256 : Shape := ⟨2, ![1024, 256]⟩
abbrev S1024x7680 : Shape := ⟨2, ![1024, 7680]⟩
abbrev S1x1024 : Shape := ⟨2, ![1, 1024]⟩
abbrev S1024x4 : Shape := ⟨2, ![1024, 4]⟩
abbrev S_ : Shape := ⟨0, ![]⟩
abbrev S1024x128 : Shape := ⟨2, ![1024, 128]⟩
abbrev S8x1024 : Shape := ⟨2, ![8, 1024]⟩
abbrev S256x7680 : Shape := ⟨2, ![256, 7680]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S32x8x1024 : Shape := ⟨3, ![32, 8, 1024]⟩

abbrev nBuf : Space → Nat
  | .hbm => 30
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x7684, .bf16⟩
  | .hbm, ⟨4, _⟩ => ⟨S4096x7680, .bf16⟩
  | .hbm, ⟨5, _⟩ => ⟨S4096x128, .bf16⟩
  | .hbm, ⟨6, _⟩ => ⟨S1024x1921, .bf16⟩
  | .hbm, ⟨7, _⟩ => ⟨S1024x1921, .bf16⟩
  | .hbm, ⟨8, _⟩ => ⟨S1024x1921, .bf16⟩
  | .hbm, ⟨9, _⟩ => ⟨S1024x1921, .bf16⟩
  | .hbm, ⟨10, _⟩ => ⟨S1024x254, .bf16⟩
  | .hbm, ⟨11, _⟩ => ⟨S1024x768, .bf16⟩
  | .hbm, ⟨12, _⟩ => ⟨S1024x125, .bf16⟩
  | .hbm, ⟨13, _⟩ => ⟨S1024x643, .bf16⟩
  | .hbm, ⟨14, _⟩ => ⟨S1024x512, .bf16⟩
  | .hbm, ⟨15, _⟩ => ⟨S1024x512, .bf16⟩
  | .hbm, ⟨16, _⟩ => ⟨S1024x256, .bf16⟩
  | .hbm, ⟨17, _⟩ => ⟨S1024x256, .bf16⟩
  | .hbm, ⟨18, _⟩ => ⟨S1024x256, .bf16⟩
  | .hbm, ⟨19, _⟩ => ⟨S1024x256, .bf16⟩
  | .hbm, ⟨20, _⟩ => ⟨S1024x7680, .bf16⟩
  | .hbm, ⟨21, _⟩ => ⟨S1x1024, .f32⟩
  | .hbm, ⟨22, _⟩ => ⟨S1024x4, .bf16⟩
  | .hbm, ⟨23, _⟩ => ⟨S_, .i32⟩
  | .hbm, ⟨24, _⟩ => ⟨S_, .bf16⟩
  | .hbm, ⟨25, _⟩ => ⟨S1024x128, .bf16⟩
  | .hbm, ⟨26, _⟩ => ⟨S4096x1024, .f32⟩
  | .hbm, ⟨27, _⟩ => ⟨S8x1024, .f32⟩
  | .hbm, ⟨28, _⟩ => ⟨S_, .f32⟩
  | .hbm, ⟨29, _⟩ => ⟨S1024, .f32⟩
  | .local _ .vmem, ⟨0, _⟩ => ⟨S256x7680, .bf16⟩
  | .local _ .vmem, ⟨1, _⟩ => ⟨S256x7680, .bf16⟩
  | .local _ .vmem, ⟨2, _⟩ => ⟨S1024x7680, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x128, .bf16⟩
  | .local _ .vmem, ⟨9, _⟩ => ⟨S256x128, .bf16⟩
  | .local _ .vmem, ⟨10, _⟩ => ⟨S1024x128, .bf16⟩
  | .local _ .vmem, ⟨11, _⟩ => ⟨S256x1024, .f32⟩
  | .local _ .vmem, ⟨12, _⟩ => ⟨S256x1024, .f32⟩
  | .local _ .vmem, ⟨13, _⟩ => ⟨S8x1024, .f32⟩
  | .local _ .vmem, ⟨14, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_cst : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_11 : BitVec 32 := 0#32
  let v17 : BitVec 1 := Scalar.cmpi .eq arg1 c0_i32_11
  let v18 : BitVec 32 := Scalar.extui v17
  let c0_i32_12 : BitVec 32 := 0#32
  let v19 : BitVec 1 := Scalar.cmpi .ne v18 c0_i32_12
  v19

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x7680 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x7680 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference5Ideal.lean ====
abbrev S4096x1024 : Shape := ⟨2, ![4096, 1024]⟩
abbrev S1024 : Shape := ⟨1, ![1024]⟩
abbrev S1024x7684 : Shape := ⟨2, ![1024, 7684]⟩
abbrev S4096x7680 : Shape := ⟨2, ![4096, 7680]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x7684 : Shape := ⟨2, ![4096, 7684]⟩
abbrev S4096x4096 : Shape := ⟨2, ![4096, 4096]⟩
abbrev S4096x768 : Shape := ⟨2, ![4096, 768]⟩
abbrev S4096x512 : Shape := ⟨2, ![4096, 512]⟩
abbrev S4096x256 : Shape := ⟨2, ![4096, 256]⟩
abbrev S4096x4 : Shape := ⟨2, ![4096, 4]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x7684, .bf16⟩
  | .hbm, ⟨4, _⟩ => ⟨S4096x7680, .bf16⟩
  | .hbm, ⟨5, _⟩ => ⟨S4096x128, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x7684, .f32⟩
  | .hbm, ⟨27, _⟩ => ⟨S4096x7684, .f32⟩
  | .hbm, ⟨28, _⟩ => ⟨S4096x7680, .f32⟩
  | .hbm, ⟨29, _⟩ => ⟨S4096x128, .f32⟩
  | .hbm, ⟨30, _⟩ => ⟨S4096x4096, .f32⟩
  | .hbm, ⟨31, _⟩ => ⟨S4096x768, .f32⟩
  | .hbm, ⟨32, _⟩ => ⟨S4096x768, .f32⟩
  | .hbm, ⟨33, _⟩ => ⟨S4096x512, .f32⟩
  | .hbm, ⟨34, _⟩ => ⟨S4096x512, .f32⟩
  | .hbm, ⟨35, _⟩ => ⟨S4096x256, .f32⟩
  | .hbm, ⟨36, _⟩ => ⟨S4096x256, .f32⟩
  | .hbm, ⟨37, _⟩ => ⟨S4096x256, .f32⟩
  | .hbm, ⟨38, _⟩ => ⟨S4096x256, .f32⟩
  | .hbm, ⟨39, _⟩ => ⟨S4096x4, .f32⟩
  | .hbm, ⟨40, _⟩ => ⟨S4096x7684, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1x1024 : Shape := ⟨2, ![1, 1024]⟩
abbrev S8x128 : Shape := ⟨2, ![8, 128]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S64x8x1024 : Shape := ⟨3, ![64, 8, 1024]⟩
abbrev S1x1 : Shape := ⟨2, ![1, 1]⟩
abbrev S_ : Shape := ⟨0, ![]⟩

abbrev nBuf : Space → Nat
  | .hbm => 11
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S8x128, .f32⟩
  | .hbm, ⟨5, _⟩ => ⟨S4096x1024, .f32⟩
  | .hbm, ⟨6, _⟩ => ⟨S8x1024, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference6Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Kernel7.lean ====
abbrev S2x1024x1921 : Shape := ⟨3, ![2, 1024, 1921]⟩
abbrev S2048x1921 : Shape := ⟨2, ![2048, 1921]⟩
abbrev S128x1921 : Shape := ⟨2, ![128, 1921]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x1921, .f32⟩
  | .hbm, ⟨1, _⟩ => ⟨S2x1024x1921, .f32⟩
  | .hbm, ⟨2, _⟩ => ⟨S2x1024x1921, .f32⟩
  | .hbm, ⟨3, _⟩ => ⟨S2x1024x1921, .f32⟩
  | .hbm, ⟨4, _⟩ => ⟨S2048x1921, .f32⟩
  | .hbm, ⟨5, _⟩ => ⟨S2048x1921, .f32⟩
  | .hbm, ⟨6, _⟩ => ⟨S2048x1921, .f32⟩
  | .hbm, ⟨7, _⟩ => ⟨S2048x1921, .f32⟩
  | .hbm, ⟨8, _⟩ => ⟨S2048x1921, .f32⟩
  | .hbm, ⟨9, _⟩ => ⟨S2048x1921, .f32⟩
  | .hbm, ⟨10, _⟩ => ⟨S2048x1921, .f32⟩
  | .hbm, ⟨11, _⟩ => ⟨S2x1024x1921, .f32⟩
  | .hbm, ⟨12, _⟩ => ⟨S2x1024x1921, .f32⟩
  | .hbm, ⟨13, _⟩ => ⟨S2x1024x1921, .f32⟩
  | .local _ .vmem, ⟨0, _⟩ => ⟨S128x1921, .f32⟩
  | .local _ .vmem, ⟨1, _⟩ => ⟨S128x1921, .f32⟩
  | .local _ .vmem, ⟨2, _⟩ => ⟨S128x1921, .f32⟩
  | .local _ .vmem, ⟨3, _⟩ => ⟨S128x1921, .f32⟩
  | .local _ .vmem, ⟨4, _⟩ => ⟨S128x1921, .f32⟩
  | .local _ .vmem, ⟨5, _⟩ => ⟨S128x1921, .f32⟩
  | .local _ .vmem, ⟨6, _⟩ => ⟨S128x1921, .f32⟩
  | .local _ .vmem, ⟨7, _⟩ => ⟨S128x1921, .f32⟩
  | .local _ .vmem, ⟨8, _⟩ => ⟨S128x1921, .f32⟩
  | .local _ .vmem, ⟨9, _⟩ => ⟨S128x1921, .f32⟩
  | .local _ .vmem, ⟨10, _⟩ => ⟨S128x1921, .f32⟩
  | .local _ .vmem, ⟨11, _⟩ => ⟨S128x1921, .f32⟩
  | .local _ .vmem, ⟨12, _⟩ => ⟨S128x1921, .f32⟩
  | .local _ .vmem, ⟨13, _⟩ => ⟨S128x1921, .f32⟩
  | _, _ => ⟨S2x1024x1921, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1921 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1921 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1921 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1921 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1921 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1921 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1921 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel7Ideal.lean ====
abbrev S2x1024x1921 : Shape := ⟨3, ![2, 1024, 1921]⟩
abbrev S2048x1921 : Shape := ⟨2, ![2048, 1921]⟩
abbrev S128x1921 : Shape := ⟨2, ![128, 1921]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x1921, .f32⟩
  | .hbm, ⟨1, _⟩ => ⟨S2x1024x1921, .f32⟩
  | .hbm, ⟨2, _⟩ => ⟨S2x1024x1921, .f32⟩
  | .hbm, ⟨3, _⟩ => ⟨S2x1024x1921, .f32⟩
  | .hbm, ⟨4, _⟩ => ⟨S2048x1921, .f32⟩
  | .hbm, ⟨5, _⟩ => ⟨S2048x1921, .f32⟩
  | .hbm, ⟨6, _⟩ => ⟨S2048x1921, .f32⟩
  | .hbm, ⟨7, _⟩ => ⟨S2048x1921, .f32⟩
  | .hbm, ⟨8, _⟩ => ⟨S2048x1921, .f32⟩
  | .hbm, ⟨9, _⟩ => ⟨S2048x1921, .f32⟩
  | .hbm, ⟨10, _⟩ => ⟨S2048x1921, .f32⟩
  | .hbm, ⟨11, _⟩ => ⟨S2x1024x1921, .f32⟩
  | .hbm, ⟨12, _⟩ => ⟨S2x1024x1921, .f32⟩
  | .hbm, ⟨13, _⟩ => ⟨S2x1024x1921, .f32⟩
  | .local _ .vmem, ⟨0, _⟩ => ⟨S128x1921, .f32⟩
  | .local _ .vmem, ⟨1, _⟩ => ⟨S128x1921, .f32⟩
  | .local _ .vmem, ⟨2, _⟩ => ⟨S128x1921, .f32⟩
  | .local _ .vmem, ⟨3, _⟩ => ⟨S128x1921, .f32⟩
  | .local _ .vmem, ⟨4, _⟩ => ⟨S128x1921, .f32⟩
  | .local _ .vmem, ⟨5, _⟩ => ⟨S128x1921, .f32⟩
  | .local _ .vmem, ⟨6, _⟩ => ⟨S128x1921, .f32⟩
  | .local _ .vmem, ⟨7, _⟩ => ⟨S128x1921, .f32⟩
  | .local _ .vmem, ⟨8, _⟩ => ⟨S128x1921, .f32⟩
  | .local _ .vmem, ⟨9, _⟩ => ⟨S128x1921, .f32⟩
  | .local _ .vmem, ⟨10, _⟩ => ⟨S128x1921, .f32⟩
  | .local _ .vmem, ⟨11, _⟩ => ⟨S128x1921, .f32⟩
  | .local _ .vmem, ⟨12, _⟩ => ⟨S128x1921, .f32⟩
  | .local _ .vmem, ⟨13, _⟩ => ⟨S128x1921, .f32⟩
  | _, _ => ⟨S2x1024x1921, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1921 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1921 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1921 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1921 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1921 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1921 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1921 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S2x1024x1921 : Shape := ⟨3, ![2, 1024, 1921]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1921, .f32⟩
  | .hbm, ⟨1, _⟩ => ⟨S2x1024x1921, .f32⟩
  | .hbm, ⟨2, _⟩ => ⟨S2x1024x1921, .f32⟩
  | .hbm, ⟨3, _⟩ => ⟨S2x1024x1921, .f32⟩
  | .hbm, ⟨4, _⟩ => ⟨S_, .f32⟩
  | .hbm, ⟨5, _⟩ => ⟨S2x1024x1921, .f32⟩
  | .hbm, ⟨6, _⟩ => ⟨S2x1024x1921, .f32⟩
  | .hbm, ⟨7, _⟩ => ⟨S_, .f32⟩
  | .hbm, ⟨8, _⟩ => ⟨S2x1024x1921, .f32⟩
  | .hbm, ⟨9, _⟩ => ⟨S2x1024x1921, .f32⟩
  | .hbm, ⟨10, _⟩ => ⟨S2x1024x1921, .f32⟩
  | .hbm, ⟨11, _⟩ => ⟨S_, .f32⟩
  | .hbm, ⟨12, _⟩ => ⟨S2x1024x1921, .f32⟩
  | .hbm, ⟨13, _⟩ => ⟨S2x1024x1921, .f32⟩
  | .hbm, ⟨14, _⟩ => ⟨S2x1024x1921, .f32⟩
  | .hbm, ⟨15, _⟩ => ⟨S_, .f32⟩
  | .hbm, ⟨16, _⟩ => ⟨S2x1024x1921, .f32⟩
  | .hbm, ⟨17, _⟩ => ⟨S2x1024x1921, .f32⟩
  | .hbm, ⟨18, _⟩ => ⟨S2x1024x1921, .f32⟩
  | .hbm, ⟨19, _⟩ => ⟨S_, .f32⟩
  | .hbm, ⟨20, _⟩ => ⟨S2x1024x1921, .f32⟩
  | .hbm, ⟨21, _⟩ => ⟨S2x1024x1921, .f32⟩
  | .hbm, ⟨22, _⟩ => ⟨S_, .f32⟩
  | .hbm, ⟨23, _⟩ => ⟨S2x1024x1921, .f32⟩
  | .hbm, ⟨24, _⟩ => ⟨S2x1024x1921, .f32⟩
  | .hbm, ⟨25, _⟩ => ⟨S2x1024x1921, .f32⟩
  | .hbm, ⟨26, _⟩ => ⟨S_, .f32⟩
  | .hbm, ⟨27, _⟩ => ⟨S2x1024x1921, .f32⟩
  | .hbm, ⟨28, _⟩ => ⟨S2x1024x1921, .f32⟩
  | .hbm, ⟨29, _⟩ => ⟨S2x1024x1921, .f32⟩
  | .hbm, ⟨30, _⟩ => ⟨S_, .f32⟩
  | .hbm, ⟨31, _⟩ => ⟨S2x1024x1921, .f32⟩
  | .hbm, ⟨32, _⟩ => ⟨S2x1024x1921, .f32⟩
  | .hbm, ⟨33, _⟩ => ⟨S2x1024x1921, .f32⟩
  | .hbm, ⟨34, _⟩ => ⟨S_, .f32⟩
  | .hbm, ⟨35, _⟩ => ⟨S2x1024x1921, .f32⟩
  | .hbm, ⟨36, _⟩ => ⟨S2x1024x1921, .f32⟩
  | _, _ => ⟨S2x1024x1921, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S2x4x256x256 : Shape := ⟨4, ![2, 4, 256, 256]⟩
abbrev S2048x256 : Shape := ⟨2, ![2048, 256]⟩
abbrev S1024x256 : Shape := ⟨2, ![1024, 256]⟩

abbrev nBuf : Space → Nat
  | .hbm => 14
  | .vmem => 14
  | .smem => 0
  | _ => 0

abbrev bufTy : (tb : Table) → Fin (tcTables nBuf tb) → BufTy
  | .hbm, ⟨0, _⟩ => ⟨S2x4x256x256, .f32⟩
  | .hbm, ⟨1, _⟩ => ⟨S2x4x256x256, .f32⟩
  | .hbm, ⟨2, _⟩ => ⟨S2x4x256x256, .f32⟩
  | .hbm, ⟨3, _⟩ => ⟨S2x4x256x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S2x4x256x256, .f32⟩
  | .hbm, ⟨12, _⟩ => ⟨S2x4x256x256, .f32⟩
  | .hbm, ⟨13, _⟩ => ⟨S2x4x256x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S2x4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel8Ideal.lean ====
abbrev S2x4x256x256 : Shape := ⟨4, ![2, 4, 256, 256]⟩
abbrev S2048x256 : Shape := ⟨2, ![2048, 256]⟩
abbrev S1024x256 : Shape := ⟨2, ![1024, 256]⟩

abbrev nBuf : Space → Nat
  | .hbm => 14
  | .vmem => 14
  | .smem => 0
  | _ => 0

abbrev bufTy : (tb : Table) → Fin (tcTables nBuf tb) → BufTy
  | .hbm, ⟨0, _⟩ => ⟨S2x4x256x256, .f32⟩
  | .hbm, ⟨1, _⟩ => ⟨S2x4x256x256, .f32⟩
  | .hbm, ⟨2, _⟩ => ⟨S2x4x256x256, .f32⟩
  | .hbm, ⟨3, _⟩ => ⟨S2x4x256x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S2x4x256x256, .f32⟩
  | .hbm, ⟨12, _⟩ => ⟨S2x4x256x256, .f32⟩
  | .hbm, ⟨13, _⟩ => ⟨S2x4x256x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S2x4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S2x4x256x256 : Shape := ⟨4, ![2, 4, 256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x4x256x256, .f32⟩
  | .hbm, ⟨1, _⟩ => ⟨S2x4x256x256, .f32⟩
  | .hbm, ⟨2, _⟩ => ⟨S2x4x256x256, .f32⟩
  | .hbm, ⟨3, _⟩ => ⟨S2x4x256x256, .f32⟩
  | .hbm, ⟨4, _⟩ => ⟨S_, .f32⟩
  | .hbm, ⟨5, _⟩ => ⟨S2x4x256x256, .f32⟩
  | .hbm, ⟨6, _⟩ => ⟨S2x4x256x256, .f32⟩
  | .hbm, ⟨7, _⟩ => ⟨S_, .f32⟩
  | .hbm, ⟨8, _⟩ => ⟨S2x4x256x256, .f32⟩
  | .hbm, ⟨9, _⟩ => ⟨S2x4x256x256, .f32⟩
  | .hbm, ⟨10, _⟩ => ⟨S2x4x256x256, .f32⟩
  | .hbm, ⟨11, _⟩ => ⟨S_, .f32⟩
  | .hbm, ⟨12, _⟩ => ⟨S2x4x256x256, .f32⟩
  | .hbm, ⟨13, _⟩ => ⟨S2x4x256x256, .f32⟩
  | .hbm, ⟨14, _⟩ => ⟨S2x4x256x256, .f32⟩
  | .hbm, ⟨15, _⟩ => ⟨S_, .f32⟩
  | .hbm, ⟨16, _⟩ => ⟨S2x4x256x256, .f32⟩
  | .hbm, ⟨17, _⟩ => ⟨S2x4x256x256, .f32⟩
  | .hbm, ⟨18, _⟩ => ⟨S2x4x256x256, .f32⟩
  | .hbm, ⟨19, _⟩ => ⟨S_, .f32⟩
  | .hbm, ⟨20, _⟩ => ⟨S2x4x256x256, .f32⟩
  | .hbm, ⟨21, _⟩ => ⟨S2x4x256x256, .f32⟩
  | .hbm, ⟨22, _⟩ => ⟨S_, .f32⟩
  | .hbm, ⟨23, _⟩ => ⟨S2x4x256x256, .f32⟩
  | .hbm, ⟨24, _⟩ => ⟨S2x4x256x256, .f32⟩
  | .hbm, ⟨25, _⟩ => ⟨S2x4x256x256, .f32⟩
  | .hbm, ⟨26, _⟩ => ⟨S_, .f32⟩
  | .hbm, ⟨27, _⟩ => ⟨S2x4x256x256, .f32⟩
  | .hbm, ⟨28, _⟩ => ⟨S2x4x256x256, .f32⟩
  | .hbm, ⟨29, _⟩ => ⟨S2x4x256x256, .f32⟩
  | .hbm, ⟨30, _⟩ => ⟨S_, .f32⟩
  | .hbm, ⟨31, _⟩ => ⟨S2x4x256x256, .f32⟩
  | .hbm, ⟨32, _⟩ => ⟨S2x4x256x256, .f32⟩
  | .hbm, ⟨33, _⟩ => ⟨S2x4x256x256, .f32⟩
  | .hbm, ⟨34, _⟩ => ⟨S_, .f32⟩
  | .hbm, ⟨35, _⟩ => ⟨S2x4x256x256, .f32⟩
  | .hbm, ⟨36, _⟩ => ⟨S2x4x256x256, .f32⟩
  | _, _ => ⟨S2x4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S2x256x1024, .f32⟩
  | .hbm, ⟨12, _⟩ => ⟨S2x256x1024, .f32⟩
  | .hbm, ⟨13, _⟩ => ⟨S2x256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Merge.Spec.lean ====
/- The gradient of the gated merge, written as plain formulas over the extended reals. The kernel's side and the
   reference's side are each brought to these formulas. -/
module

public import Idealize.ShloMosaic.Lib.Pointwise
public import Idealize.ShloMosaic.Lib.IdealHost

@[expose] public section

noncomputable section

open Idealize.ShloMosaic
open scoped BigOperators

namespace Cert.Merge

/-- Rows of the arrays that have one row for each token and one column for each model coordinate. -/
abbrev Rows : Shape := ⟨2, ![4096, 1024]⟩
/-- The projection of the layer: 4096 columns of merge logits first. -/
abbrev Proj : Shape := ⟨2, ![4096, 7680]⟩
/-- What one mixer returns. -/
abbrev Mix : Shape := ⟨2, ![4096, 256]⟩
/-- The four branch weights. -/
abbrev Branch : Shape := ⟨3, ![4, 256, 1024]⟩
/-- The output weight. -/
abbrev Out : Shape := ⟨2, ![1024, 1024]⟩

/-- The logistic function. -/
def logi (x : EReal) : EReal := Ideal.div 1 (1 + Ideal.exp (-x))

/-- The bit pattern of one half. -/
theorem half_bits : Ideal.ofBits .f32 0x3F000000#32 = (((1 : ℝ) / 2 : ℝ) : EReal) := by
  simp [Ideal.ofBits, Ideal.ieee, -EReal.coe_mul]; norm_num

/-- On the reals: half the hyperbolic tangent of half the argument, plus a half, is the logistic function. -/
theorem real_logi (x : ℝ) : (1 / 2 : ℝ) * Real.tanh ((1 / 2 : ℝ) * x) + 1 / 2 = (1 + Real.exp (-x))⁻¹ := by
  have h : Real.exp (-x) = Real.exp (-(1 / 2 * x)) * Real.exp (-(1 / 2 * x)) := by
    rw [← Real.exp_add]; congr 1; ring
  have hp : 0 < Real.exp (1 / 2 * x) := Real.exp_pos _
  have hq : 0 < Real.exp (-(1 / 2 * x)) := Real.exp_pos _
  have hpq : Real.exp (1 / 2 * x) * Real.exp (-(1 / 2 * x)) = 1 := by
    rw [← Real.exp_add]; simp
  rw [Real.tanh_eq_sinh_div_cosh, Real.sinh_eq, Real.cosh_eq, h]
  generalize Real.exp (1 / 2 * x) = p at *
  generalize Real.exp (-(1 / 2 * x)) = q at *
  obtain rfl : p = q⁻¹ := eq_inv_of_mul_eq_one_left hpq
  field_simp
  ring

/-- The kernel's spelling of the logistic function is the logistic function, at every extended real. -/
theorem logi_tanh (x : EReal) :
    Ideal.ofBits .f32 0x3F000000#32 * Ideal.tanh (Ideal.ofBits .f32 0x3F000000#32 * x) + Ideal.ofBits .f32 0x3F000000#32
      = logi x := by
  rw [half_bits, logi]
  induction x with
  | bot =>
    rw [EReal.coe_mul_bot_of_pos (by norm_num)]
    change (((1 : ℝ) / 2 : ℝ) : EReal) * (-1) + (((1 : ℝ) / 2 : ℝ) : EReal) = Ideal.div 1 (1 + ⊤)
    rw [EReal.add_top_of_ne_bot (by decide), Ideal.div, if_neg (by decide), EReal.inv_top, mul_zero, mul_neg, mul_one,
      ← EReal.coe_neg, ← EReal.coe_add]
    norm_num
  | top =>
    rw [EReal.coe_mul_top_of_pos (by norm_num)]
    change (((1 : ℝ) / 2 : ℝ) : EReal) * 1 + (((1 : ℝ) / 2 : ℝ) : EReal) = Ideal.div 1 (1 + 0)
    rw [add_zero, Ideal.div, if_neg one_ne_zero, inv_one, mul_one, mul_one, ← EReal.coe_add]
    norm_num
  | coe x =>
    rw [← EReal.coe_mul, ← EReal.coe_neg]
    change (((1 : ℝ) / 2 : ℝ) : EReal) * (Real.tanh ((1 : ℝ) / 2 * x) : EReal) + (((1 : ℝ) / 2 : ℝ) : EReal)
      = Ideal.div 1 (1 + (Real.exp (-x) : EReal))
    have h : (1 : EReal) + (Real.exp (-x) : EReal) = ((1 + Real.exp (-x) : ℝ) : EReal) := by
      rw [EReal.coe_add, EReal.coe_one]
    have h0 : (1 + Real.exp (-x) : ℝ) ≠ 0 := (add_pos one_pos (Real.exp_pos _)).ne'
    rw [h, Ideal.div, if_neg (by exact_mod_cast h0), one_mul, ← EReal.coe_inv, ← EReal.coe_mul, ← EReal.coe_add, real_logi]

/-- The gate of branch `n`: the logistic function of the branch's merge logits. -/
def gate (p : FVec Ideal Proj .f32) (n : Fin 4) (s : Fin 4096) (d : Fin 1024) : EReal :=
  logi (p (ix2 s ⟨n.val * 1024 + d.val, by omega⟩))

theorem gate0 (p : FVec Ideal Proj .f32) (s : Fin 4096) (d : Fin 1024) :
    gate p 0 s d = logi (p (ix2 s ⟨d.val, by omega⟩)) := by
  have h : (⟨(0 : Fin 4).val * 1024 + d.val, by omega⟩ : Fin 7680) = ⟨d.val, by omega⟩ :=
    Fin.ext (by show 0 * 1024 + d.val = d.val; omega)
  exact congrArg (fun l => logi (p (ix2 s l))) h

theorem gate1 (p : FVec Ideal Proj .f32) (s : Fin 4096) (d : Fin 1024) :
    gate p 1 s d = logi (p (ix2 s ⟨1024 + d.val, by omega⟩)) := rfl

theorem gate2 (p : FVec Ideal Proj .f32) (s : Fin 4096) (d : Fin 1024) :
    gate p 2 s d = logi (p (ix2 s ⟨2048 + d.val, by omega⟩)) := rfl

theorem gate3 (p : FVec Ideal Proj .f32) (s : Fin 4096) (d : Fin 1024) :
    gate p 3 s d = logi (p (ix2 s ⟨3072 + d.val, by omega⟩)) := rfl

/-- What a mixer returned, projected by its branch's weight. -/
def proj (y : FVec Ideal Mix .bf16) (w : FVec Ideal Branch .bf16) (n : Fin 4) (s : Fin 4096) (d : Fin 1024) : EReal :=
  ∑ k : Fin 256, y (ix2 s k) * w (ix3 n k d)

/-- The gradient of the merged row: the incoming gradient times the transposed output weight. -/
def dm (x : FVec Ideal Rows .f32) (wo : FVec Ideal Out .bf16) (s : Fin 4096) (d : Fin 1024) : EReal :=
  ∑ e : Fin 1024, x (ix2 s e) * wo (ix2 d e)

/-- The gradient of a branch's projection. -/
def dpn (x : FVec Ideal Rows .f32) (p : FVec Ideal Proj .f32) (wo : FVec Ideal Out .bf16) (n : Fin 4) (s : Fin 4096)
    (d : Fin 1024) : EReal :=
  dm x wo s d * gate p n s d

/-- The gradient of a branch's merge logits. -/
def dlog (x : FVec Ideal Rows .f32) (p : FVec Ideal Proj .f32) (y : FVec Ideal Mix .bf16) (w : FVec Ideal Branch .bf16)
    (wo : FVec Ideal Out .bf16) (n : Fin 4) (s : Fin 4096) (d : Fin 1024) : EReal :=
  dm x wo s d * proj y w n s d * gate p n s d * (1 - gate p n s d)

/-- The gradient of what a mixer returned. -/
def dy (x : FVec Ideal Rows .f32) (p : FVec Ideal Proj .f32) (w : FVec Ideal Branch .bf16) (wo : FVec Ideal Out .bf16)
    (n : Fin 4) : FVec Ideal Mix .f32 :=
  fun i => ∑ d : Fin 1024, dpn x p wo n (i 0) d * w (ix3 n (i 1) d)

/-- The merged row. -/
def merged (p : FVec Ideal Proj .f32) (ya yb yc yd : FVec Ideal Mix .bf16) (w : FVec Ideal Branch .bf16) (s : Fin 4096)
    (d : Fin 1024) : EReal :=
  gate p 0 s d * proj ya w 0 s d + gate p 1 s d * proj yb w 1 s d + gate p 2 s d * proj yc w 2 s d + gate p 3 s d * proj yd w 3 s d

/-- The gradient of the output weight. -/
def dwo (x : FVec Ideal Rows .f32) (p : FVec Ideal Proj .f32) (ya yb yc yd : FVec Ideal Mix .bf16)
    (w : FVec Ideal Branch .bf16) : FVec Ideal Out .f32 :=
  fun i => ∑ s : Fin 4096, merged p ya yb yc yd w s (i 0) * x (ix2 s (i 1))

/-- The gradient of one branch's weight. -/
def dwb (x : FVec Ideal Rows .f32) (p : FVec Ideal Proj .f32) (y : FVec Ideal Mix .bf16) (wo : FVec Ideal Out .bf16)
    (n : Fin 4) (k : Fin 256) (d : Fin 1024) : EReal :=
  ∑ s : Fin 4096, y (ix2 s k) * dpn x p wo n s d

/-- The mixer's output that branch `n` takes. -/
def pick (ya yb yc yd : FVec Ideal Mix .bf16) (n : Fin 4) : FVec Ideal Mix .bf16 :=
  if n.val = 0 then ya else if n.val = 1 then yb else if n.val = 2 then yc else yd

/-- The gradient of the merge logits, the four branches side by side. -/
def dlogs (x : FVec Ideal Rows .f32) (p : FVec Ideal Proj .f32) (ya yb yc yd : FVec Ideal Mix .bf16)
    (w : FVec Ideal Branch .bf16) (wo : FVec Ideal Out .bf16) (s : Fin 4096) (l : Fin 7680) : EReal :=
  if h : l.val < 4096 then
    dlog x p (pick ya yb yc yd ⟨l.val / 1024, by omega⟩) w wo ⟨l.val / 1024, by omega⟩ s ⟨l.val % 1024, by omega⟩
  else 0

theorem dlogs_at (x : FVec Ideal Rows .f32) (p : FVec Ideal Proj .f32) (ya yb yc yd : FVec Ideal Mix .bf16)
    (w : FVec Ideal Branch .bf16) (wo : FVec Ideal Out .bf16) (s : Fin 4096) (n : Fin 4) (d : Fin 1024) (l : Fin 7680)
    (h : l.val = n.val * 1024 + d.val) :
    dlogs x p ya yb yc yd w wo s l = dlog x p (pick ya yb yc yd n) w wo n s d := by
  have hn : (⟨l.val / 1024, by omega⟩ : Fin 4) = n := Fin.ext (by show l.val / 1024 = n.val; omega)
  have hd : (⟨l.val % 1024, by omega⟩ : Fin 1024) = d := Fin.ext (by show l.val % 1024 = d.val; omega)
  rw [dlogs, dif_pos (by omega), hn, hd]

/-- The gradient of the branch weights. -/
def dwbs (x : FVec Ideal Rows .f32) (p : FVec Ideal Proj .f32) (ya yb yc yd : FVec Ideal Mix .bf16)
    (wo : FVec Ideal Out .bf16) : FVec Ideal Branch .f32 :=
  fun i => dwb x p (pick ya yb yc yd (i 0)) wo (i 0) (i 1) (i 2)

end Cert.Merge

end
-- ==== Proof.Merge.Reads.lean ====
/- What the blocks of the call hold, read off the arguments, and what the host computed before the call. -/
module

public import proofs.«01_k».proof.Proof.Gen.KernelIdeal.Value
public import proofs.«01_k».proof.Proof.Merge.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Merge

open Cert.KernelIdeal Cert.KernelIdeal.Gen

variable (m : (ℓ : Loc nD τ sig) → Buf (Elt Ideal) ℓ)

/-- Argument 0, as the initial memory holds it on a device; the others likewise. -/
def A0 (c : Dev nD) : FVec Ideal Rows .f32 := m ((c.tc : Thread nD τ).loc main_arg0)
/-- Argument 1. -/
def A1 (c : Dev nD) : FVec Ideal Proj .f32 := m ((c.tc : Thread nD τ).loc main_arg1)
/-- Argument 2. -/
def A2 (c : Dev nD) : FVec Ideal Mix .bf16 := m ((c.tc : Thread nD τ).loc main_arg2)
/-- Argument 3. -/
def A3 (c : Dev nD) : FVec Ideal Mix .bf16 := m ((c.tc : Thread nD τ).loc main_arg3)
/-- Argument 4. -/
def A4 (c : Dev nD) : FVec Ideal Mix .bf16 := m ((c.tc : Thread nD τ).loc main_arg4)
/-- Argument 5. -/
def A5 (c : Dev nD) : FVec Ideal Mix .bf16 := m ((c.tc : Thread nD τ).loc main_arg5)
/-- Argument 6. -/
def A6 (c : Dev nD) : FVec Ideal Branch .bf16 := m ((c.tc : Thread nD τ).loc main_arg6)
/-- Argument 7. -/
def A7 (c : Dev nD) : FVec Ideal Out .bf16 := m ((c.tc : Thread nD τ).loc main_arg7)

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![0, 0, 0]
    ∧ win0_8.index t = ![0, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![0, 0]
    ∧ win0_15.index t = ![0, 0, 0] :=
  (by decide +kernel : ∀ t : Fin grid0.N, _)

/-- The row of the arrays that a row of a point's block is. -/
def row (t : Fin cfg0.N) (r : Fin 256) : Fin 4096 := ⟨t.val * 256 + r.val, by have h : t.val < 16 := t.isLt; have h3 := r.isLt; omega⟩

theorem blk0 (c : Dev nD) (t : Fin cfg0.N) (r : Fin 256) (e : Fin 1024) :
    iblk m c 0 t (ix2 r e : S256x1024.Idx) = A0 m c (ix2 (row t r) e) := by
  blk_simp [iblk]
  blk_ext [idx_val t, row]

theorem blk1 (c : Dev nD) (t : Fin cfg0.N) (r : Fin 256) (e : Fin 4096) :
    X0_1 m c t (ix2 r e : S256x4096.Idx) = A1 m c (ix2 (row t r) ⟨e.val, by omega⟩) := by
  unfold X0_1 Pipeline.Window.fill
  rw [dif_pos (moved0_1 t _)]
  blk_simp [iblk]
  blk_ext [idx_val t, row]

theorem blk1_fill (c : Dev nD) (t : Fin cfg0.N) (r : Fin 256) (e : Fin 4096) :
    (win0 1).fill (grid0.coords t) dflt0_1 (iblk m c 1 t) (ix2 r e : S256x4096.Idx) = A1 m c (ix2 (row t r) ⟨e.val, by omega⟩) :=
  blk1 m c t r e

theorem blk2 (c : Dev nD) (t : Fin cfg0.N) (r : Fin 256) (e : Fin 256) :
    iblk m c 2 t (ix2 r e : S256x256.Idx) = A2 m c (ix2 (row t r) e) := by
  blk_simp [iblk]
  blk_ext [idx_val t, row]

theorem blk3 (c : Dev nD) (t : Fin cfg0.N) (r : Fin 256) (e : Fin 256) :
    iblk m c 3 t (ix2 r e : S256x256.Idx) = A3 m c (ix2 (row t r) e) := by
  blk_simp [iblk]
  blk_ext [idx_val t, row]

theorem blk4 (c : Dev nD) (t : Fin cfg0.N) (r : Fin 256) (e : Fin 256) :
    iblk m c 4 t (ix2 r e : S256x256.Idx) = A4 m c (ix2 (row t r) e) := by
  blk_simp [iblk]
  blk_ext [idx_val t, row]

theorem blk5 (c : Dev nD) (t : Fin cfg0.N) (r : Fin 256) (e : Fin 256) :
    iblk m c 5 t (ix2 r e : S256x256.Idx) = A5 m c (ix2 (row t r) e) := by
  blk_simp [iblk]
  blk_ext [idx_val t, row]

theorem blk7 (c : Dev nD) (t : Fin cfg0.N) (n : Fin 4) (k : Fin 256) (e : Fin 1024) :
    iblk m c 7 t (ix3 n k e : S4x256x1024.Idx) = A6 m c (ix3 n k e) := by
  blk_simp [iblk]
  blk_ext [idx_val t, row]

theorem blk8 (c : Dev nD) (t : Fin cfg0.N) (d : Fin 1024) (e : Fin 1024) :
    iblk m c 8 t (ix2 d e : S1024x1024.Idx) = A7 m c (ix2 d e) := by
  blk_simp [iblk]
  blk_ext [idx_val t, row]

/-- What the host computed before the call: the merged rows. -/
theorem host_merged (c : Dev nD) (s : Fin 4096) (d : Fin 1024) :
    V m c main_v57 (ix2 s d : S4096x1024.Idx) = merged (A1 m c) (A2 m c) (A3 m c) (A4 m c) (A5 m c) (A6 m c) s d := by
  entry_read
  pointwise [merged, gate, logi, proj, A1, A2, A3, A4, A5, A6]

theorem blk6 (c : Dev nD) (t : Fin cfg0.N) (r : Fin 256) (d : Fin 1024) :
    iblk m c 6 t (ix2 r d : S256x1024.Idx)
      = merged (A1 m c) (A2 m c) (A3 m c) (A4 m c) (A5 m c) (A6 m c) (row t r) d := by
  rw [← host_merged]
  blk_simp [iblk]
  blk_ext [idx_val t, row]

end Cert.Merge

end
-- ==== Proof.Merge.Mixers.lean ====
/- What the call leaves in the gradients of the mixers' outputs: the plain formulas. -/
module

public import proofs.«01_k».proof.Proof.Merge.Reads

@[expose] public section

set_option maxRecDepth 16384

noncomputable section

open Idealize.ShloMosaic Idealize.ShloMosaic.TcCoe Idealize.SL.Sem
open Idealize.ShloMosaic.Pipeline (Dat)
open scoped BigOperators

namespace Cert.Merge

open Cert.KernelIdeal Cert.KernelIdeal.Gen

variable (m : (ℓ : Loc nD τ sig) → Buf (Elt Ideal) ℓ)

/-- Where a point's block of result 1 lies. -/
theorem emb10 (t : Fin cfg0.N) (y : S256x256.Idx) :
    ((cfg0.win 10).blk t).view.emb y = (ix2 (row t (y 0)) (y 1) : S4096x256.Idx) := by
  blk_ext [idx_val t, row]

set_option maxHeartbeats 1600000 in
/-- Result 1 is the gradient of what mixer 0 returned. -/
theorem final_10 (c : Dev nD) : (dats m 0 c).arrAt 10 (cfgs 0).N = dy (A0 m c) (A1 m c) (A6 m c) (A7 m c) 0 := by
  refine (dats m 0 c).arrAt_eq_of_covers 10 _ (by decide +kernel) fun t hf y => ?_
  rw [emb10]
  blk_simp; rw [after0_10]
  by_cases h : t.val % 16 = 0
  · rw [outsAt0_A m c t h]; dsimp only; frame_out
    pointwise [k0_pay14, k0_pay13, k0_pay10, k0_pay8, k0_pay7, logi_tanh, blk0, blk1, blk7, blk8, emb10, dy, dpn, dm, gate0]
  · rw [outsAt0_B m c t h]; dsimp only; frame_out
    pointwise [k0_pay14, k0_pay13, k0_pay10, k0_pay8, k0_pay7, logi_tanh, blk0, blk1, blk7, blk8, emb10, dy, dpn, dm, gate0]

/-- Where a point's block of result 2 lies. -/
theorem emb11 (t : Fin cfg0.N) (y : S256x256.Idx) :
    ((cfg0.win 11).blk t).view.emb y = (ix2 (row t (y 0)) (y 1) : S4096x256.Idx) := by
  blk_ext [idx_val t, row]

set_option maxHeartbeats 1600000 in
/-- Result 2 is the gradient of what mixer 1 returned. -/
theorem final_11 (c : Dev nD) : (dats m 0 c).arrAt 11 (cfgs 0).N = dy (A0 m c) (A1 m c) (A6 m c) (A7 m c) 1 := by
  refine (dats m 0 c).arrAt_eq_of_covers 11 _ (by decide +kernel) fun t hf y => ?_
  rw [emb11]
  blk_simp; rw [after0_11]
  by_cases h : t.val % 16 = 0
  · rw [outsAt0_A m c t h]; dsimp only; frame_out
    pointwise [k0_pay21, k0_pay20, k0_pay16, k0_pay8, k0_pay7, logi_tanh, blk0, blk1, blk7, blk8, emb11, dy, dpn, dm, gate1]
  · rw [outsAt0_B m c t h]; dsimp only; frame_out
    pointwise [k0_pay21, k0_pay20, k0_pay16, k0_pay8, k0_pay7, logi_tanh, blk0, blk1, blk7, blk8, emb11, dy, dpn, dm, gate1]

/-- Where a point's block of result 3 lies. -/
theorem emb12 (t : Fin cfg0.N) (y : S256x256.Idx) :
    ((cfg0.win 12).blk t).view.emb y = (ix2 (row t (y 0)) (y 1) : S4096x256.Idx) := by
  blk_ext [idx_val t, row]

set_option maxHeartbeats 1600000 in
/-- Result 3 is the gradient of what mixer 2 returned. -/
theorem final_12 (c : Dev nD) : (dats m 0 c).arrAt 12 (cfgs 0).N = dy (A0 m c) (A1 m c) (A6 m c) (A7 m c) 2 := by
  refine (dats m 0 c).arrAt_eq_of_covers 12 _ (by decide +kernel) fun t hf y => ?_
  rw [emb12]
  blk_simp; rw [after0_12]
  by_cases h : t.val % 16 = 0
  · rw [outsAt0_A m c t h]; dsimp only; frame_out
    pointwise [k0_pay27, k0_pay26, k0_pay23, k0_pay8, k0_pay7, logi_tanh, blk0, blk1, blk7, blk8, emb12, dy, dpn, dm, gate2]
  · rw [outsAt0_B m c t h]; dsimp only; frame_out
    pointwise [k0_pay27, k0_pay26, k0_pay23, k0_pay8, k0_pay7, logi_tanh, blk0, blk1, blk7, blk8, emb12, dy, dpn, dm, gate2]

/-- Where a point's block of result 4 lies. -/
theorem emb13 (t : Fin cfg0.N) (y : S256x256.Idx) :
    ((cfg0.win 13).blk t).view.emb y = (ix2 (row t (y 0)) (y 1) : S4096x256.Idx) := by
  blk_ext [idx_val t, row]

set_option maxHeartbeats 1600000 in
/-- Result 4 is the gradient of what mixer 3 returned. -/
theorem final_13 (c : Dev nD) : (dats m 0 c).arrAt 13 (cfgs 0).N = dy (A0 m c) (A1 m c) (A6 m c) (A7 m c) 3 := by
  refine (dats m 0 c).arrAt_eq_of_covers 13 _ (by decide +kernel) fun t hf y => ?_
  rw [emb13]
  blk_simp; rw [after0_13]
  by_cases h : t.val % 16 = 0
  · rw [outsAt0_A m c t h]; dsimp only; frame_out
    pointwise [k0_pay3, k0_pay2, k0_pay29, k0_pay1, k0_pay8, k0_pay7, logi_tanh, blk0, blk1, blk7, blk8, emb13, dy, dpn, dm, gate3]
  · rw [outsAt0_B m c t h]; dsimp only; frame_out
    pointwise [k0_pay3, k0_pay2, k0_pay29, k0_pay1, k0_pay8, k0_pay7, logi_tanh, blk0, blk1, blk7, blk8, emb13, dy, dpn, dm, gate3]

end Cert.Merge

end
-- ==== Proof.Merge.Logits.lean ====
/- What the call leaves in the gradient of the merge logits: the plain formulas. -/
module

public import proofs.«01_k».proof.Proof.Merge.Reads

@[expose] public section

set_option maxRecDepth 16384

noncomputable section

open Idealize.ShloMosaic Idealize.ShloMosaic.TcCoe Idealize.SL.Sem
open Idealize.ShloMosaic.Pipeline (Dat)
open scoped BigOperators

namespace Cert.Merge

open Cert.KernelIdeal Cert.KernelIdeal.Gen

variable (m : (ℓ : Loc nD τ sig) → Buf (Elt Ideal) ℓ)

/-- One entry of the gradient of the merge logits, found in the wide array. -/
theorem dlogs_of (x : FVec Ideal Rows .f32) (p : FVec Ideal Proj .f32) (ya yb yc yd : FVec Ideal Mix .bf16)
    (w : FVec Ideal Branch .bf16) (wo : FVec Ideal Out .bf16) (n : Fin 4) (y : FVec Ideal Mix .bf16)
    (hy : pick ya yb yc yd n = y) (s s' : Fin 4096) (d : Fin 1024) (l : Fin 7680) (v : EReal)
    (hv : v = p (ix2 s ⟨n.val * 1024 + d.val, by omega⟩)) (hs : s'.val = s.val) (hl : l.val = n.val * 1024 + d.val) :
    dm x wo s d * proj y w n s d * logi v * (1 - logi v) = dlogs x p ya yb yc yd w wo s' l := by
  subst hv hy
  rw [dlogs_at x p ya yb yc yd w wo s' n d l hl, Fin.ext hs]
  rfl

/-- The row of the array at which an element of a point's block of result 0 lies. -/
theorem emb9_row (t : Fin cfg0.N) (y : ((cfg0.win 9).xblock (cfg0.grid.coords t)).Idx) :
    (((View.whole main_v58_0).slice (win0_9.rect t)).emb y 0).val = t.val * 256 + ((win0 9).xinj (grid0.coords t) y 0).val := by
  blk_simp [idx_val t]

set_option maxHeartbeats 1600000 in
/-- Its column. -/
theorem emb9_col (t : Fin cfg0.N) (y : ((cfg0.win 9).xblock (cfg0.grid.coords t)).Idx) :
    (((View.whole main_v58_0).slice (win0_9.rect t)).emb y 1).val = ((win0 9).xinj (grid0.coords t) y 1).val := by
  change win0_9.index t 1 * 4096 + 1 * (y 1).val = (y 1).val
  rw [(idx_val t).2.2.2.2.2.2.2.2.2.1]
  exact (Nat.zero_add _).trans (Nat.one_mul _)

set_option maxHeartbeats 1600000 in
/-- Result 0, in the columns the call writes, is the gradient of the merge logits. -/
theorem final_9 (c : Dev nD) : (dats m 0 c).arrAt 9 (cfgs 0).N
    = fun i => if (i 1).val < 4096 then
        dlogs (A0 m c) (A1 m c) (A2 m c) (A3 m c) (A4 m c) (A5 m c) (A6 m c) (A7 m c) (i 0) (i 1)
      else V m c main_v58_0 i := by
  refine (dats m 0 c).arrAt_eq_of_coversWhere 9 _ (fun β => β (1 : Fin 2) < 1) (by decide +kernel) (fun t hf y => ?_)
    (fun j => by blk_simp [Pipeline.Window.cell_apply]; omega)
  blk_simp; rw [after0_9]
  by_cases h : t.val % 16 = 0
  · rw [outsAt0_A m c t h]; dsimp only; frame_out
    canon_tiles x h
    all_goals open_payloads
    all_goals pointwise [logi_tanh, blk0, blk2, blk3, blk4, blk5, blk7, blk8]
    · exact dlogs_of (A0 m c) (A1 m c) (A2 m c) (A3 m c) (A4 m c) (A5 m c) (A6 m c) (A7 m c) 3 (A5 m c) rfl (row t (x 0)) _ (x 1) _ _
        (blk1_fill m c t (x 0) _) ((emb9_row t y).trans (congrArg (t.val * 256 + ·) h0)) ((emb9_col t y).trans h1)
    · exact dlogs_of (A0 m c) (A1 m c) (A2 m c) (A3 m c) (A4 m c) (A5 m c) (A6 m c) (A7 m c) 2 (A4 m c) rfl (row t (x 0)) _ (x 1) _ _
        (blk1_fill m c t (x 0) _) ((emb9_row t y).trans (congrArg (t.val * 256 + ·) h0)) ((emb9_col t y).trans h1)
    · exact dlogs_of (A0 m c) (A1 m c) (A2 m c) (A3 m c) (A4 m c) (A5 m c) (A6 m c) (A7 m c) 1 (A3 m c) rfl (row t (x 0)) _ (x 1) _ _
        (blk1_fill m c t (x 0) _) ((emb9_row t y).trans (congrArg (t.val * 256 + ·) h0)) ((emb9_col t y).trans h1)
    · exact dlogs_of (A0 m c) (A1 m c) (A2 m c) (A3 m c) (A4 m c) (A5 m c) (A6 m c) (A7 m c) 0 (A2 m c) rfl (row t (x 0)) _ (x 1) _ _
        ((blk1_fill m c t (x 0) _).trans (congrArg (fun l => A1 m c (ix2 (row t (x 0)) l)) (Fin.ext (by simp)))) ((emb9_row t y).trans (congrArg (t.val * 256 + ·) h0)) ((emb9_col t y).trans (h1.trans (by simp)))
  · rw [outsAt0_B m c t h]; dsimp only; frame_out
    canon_tiles x h
    all_goals open_payloads
    all_goals pointwise [logi_tanh, blk0, blk2, blk3, blk4, blk5, blk7, blk8]
    · exact dlogs_of (A0 m c) (A1 m c) (A2 m c) (A3 m c) (A4 m c) (A5 m c) (A6 m c) (A7 m c) 3 (A5 m c) rfl (row t (x 0)) _ (x 1) _ _
        (blk1_fill m c t (x 0) _) ((emb9_row t y).trans (congrArg (t.val * 256 + ·) h0)) ((emb9_col t y).trans h1)
    · exact dlogs_of (A0 m c) (A1 m c) (A2 m c) (A3 m c) (A4 m c) (A5 m c) (A6 m c) (A7 m c) 2 (A4 m c) rfl (row t (x 0)) _ (x 1) _ _
        (blk1_fill m c t (x 0) _) ((emb9_row t y).trans (congrArg (t.val * 256 + ·) h0)) ((emb9_col t y).trans h1)
    · exact dlogs_of (A0 m c) (A1 m c) (A2 m c) (A3 m c) (A4 m c) (A5 m c) (A6 m c) (A7 m c) 1 (A3 m c) rfl (row t (x 0)) _ (x 1) _ _
        (blk1_fill m c t (x 0) _) ((emb9_row t y).trans (congrArg (t.val * 256 + ·) h0)) ((emb9_col t y).trans h1)
    · exact dlogs_of (A0 m c) (A1 m c) (A2 m c) (A3 m c) (A4 m c) (A5 m c) (A6 m c) (A7 m c) 0 (A2 m c) rfl (row t (x 0)) _ (x 1) _ _
        ((blk1_fill m c t (x 0) _).trans (congrArg (fun l => A1 m c (ix2 (row t (x 0)) l)) (Fin.ext (by simp)))) ((emb9_row t y).trans (congrArg (t.val * 256 + ·) h0)) ((emb9_col t y).trans (h1.trans (by simp)))

end Cert.Merge

end
-- ==== Proof.Merge.Weights.lean ====
/- What the call leaves in the gradients of the weights: the plain formulas. -/
module

public import proofs.«01_k».proof.Proof.Merge.Reads
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Merge

open Cert.KernelIdeal Cert.KernelIdeal.Gen

variable (m : (ℓ : Loc nD τ sig) → Buf (Elt Ideal) ℓ)

/-- The zero fill of the output weight's gradient. -/
theorem zero_out (j : S1024x1024.Idx) : k0_pay5 (F := Ideal) j = 0 := by
  pointwise! [k0_pay5]

/-- One point adds its rows' products. -/
theorem step_out (x : FVec Ideal S256x1024 .f32) (a : FVec Ideal S1024x1024 .f32) (y : FVec Ideal S256x1024 .bf16)
    (j : S1024x1024.Idx) :
    k0_pay9 x a y j = a j + ∑ r : Fin 256, y (ix2 r (j 0)) * x (ix2 r (j 1)) := by
  pointwise [k0_pay9, k0_pay7]

/-- What one point adds to the output weight's gradient. -/
def partOut (c : Dev nD) (t : Fin cfg0.N) (j : S1024x1024.Idx) : EReal :=
  ∑ r : Fin 256, merged (A1 m c) (A2 m c) (A3 m c) (A4 m c) (A5 m c) (A6 m c) (row t r) (j 0) * A0 m c (ix2 (row t r) (j 1))

/-- Result 5 is the gradient of the output weight. -/
theorem final_14 (c : Dev nD) : (dats m 0 c).arrAt 14 (cfgs 0).N
    = dwo (A0 m c) (A1 m c) (A2 m c) (A3 m c) (A4 m c) (A5 m c) (A6 m c) := by
  refine (dats m 0 c).arrAt_eq_of_after_last 14 t0_15 (by decide +kernel) _ fun j => ?_
  blk_simp
  rw [after0_14, Pipeline.eq_sum_fin_of_reset_step_apply_last (fun n h => (outsAt0 m c n h).2.2.2.2.2.1) 16 (fun _ => 0)
    (fun t j => partOut m c t j)
    (fun t h j => by
      rw [outsAt0_A m c t h]; frame_out; rw [step_out, zero_out]
      pointwise [partOut, blk0, blk6])
    (fun t h j => by
      rw [outsAt0_B m c t h]; frame_out; rw [step_out]
      pointwise [partOut, blk0, blk6])
    (le_of_eq N_0) t0_15 rfl j, zero_add]
  pointwise [partOut, dwo]
  exact Fin.sum_mul_add_congr fun s k hl => by rfl

/-- What one point adds to the branch weights' gradient. -/
def partBranch (c : Dev nD) (t : Fin cfg0.N) (j : S4x256x1024.Idx) : EReal :=
  ∑ r : Fin 256, pick (A2 m c) (A3 m c) (A4 m c) (A5 m c) (j 0) (ix2 (row t r) (j 1))
    * dpn (A0 m c) (A1 m c) (A7 m c) (j 0) (row t r) (j 2)

/-- Stores that hold an index hide every earlier store there. -/
theorem canon_hide {S : Shape} {e : EltTy} {Val : EltTy → Type} [∀ e, Nonempty (Val e)] (K : List (View.Piece Val S e)) (y : S.Idx) :
    ∀ L : List (View.Piece Val S e), (∃ p ∈ L, y ∈ p.1.set) → View.canon (L ++ K) y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_hide K y L ?_
      obtain ⟨q, hq, hy⟩ := h
      rcases List.mem_cons.mp hq with rfl | hq
      · exact absurd hy hm
      · exact ⟨q, hq, hy⟩

/-- One entry of what a point adds, found in the array of the four branches' weights. -/
theorem branch_of (c : Dev nD) (t : Fin cfg0.N) (n : Fin 4) (y : FVec Ideal Mix .bf16)
    (hy : pick (A2 m c) (A3 m c) (A4 m c) (A5 m c) n = y) (k : Fin 256) (d : Fin 1024) (v : Fin 256 → EReal)
    (hv : ∀ r, v r = A1 m c (ix2 (row t r) ⟨n.val * 1024 + d.val, by omega⟩)) (prev : FVec Ideal Branch .f32) (q : EReal)
    (j : S4x256x1024.Idx) (h0 : (j 0).val = n.val) (h1 : (j 1).val = k.val) (h2 : (j 2).val = d.val)
    (hq : q = prev (ix3 n k d)) :
    q + ∑ r : Fin 256, y (ix2 (row t r) k) * ((∑ e : Fin 1024, A0 m c (ix2 (row t r) e) * A7 m c (ix2 d e)) * logi (v r))
      = prev j + partBranch m c t j := by
  have e0 : j 0 = n := Fin.ext h0
  have e1 : j 1 = k := Fin.ext h1
  have e2 : j 2 = d := Fin.ext h2
  have ej : j = ix3 n k d := by
    funext a; fin_cases a <;> assumption
  subst hq hy
  unfold partBranch
  rw [e0, e1, e2, ej]
  congr 1
  exact Finset.sum_congr rfl fun r _ => by rw [hv r]; rfl

set_option maxHeartbeats 1600000 in
/-- The first point. -/
theorem first_15 (c : Dev nD) (t : Fin cfg0.N) (h : t.val % 16 = 0) (j : S4x256x1024.Idx) :
    (outsAt0 m c t.val t.isLt).2.2.2.2.2.2 j = 0 + partBranch m c t j := by
  rw [outsAt0_A m c t h]; frame_out
  simp (disch := decide) only [↓View.readCov_skip, View.readCov_fill]
  refine (canon_hide [_] j [_, _, _, _] (View.cover_of_tiled_head _ _ _ (by rfl) _)).trans ?_
  canon_tiles x h
  all_goals open_payloads
  all_goals pointwise [logi_tanh, blk0, blk2, blk3, blk4, blk5, blk7, blk8]
  · refine Eq.trans ?_ ((branch_of m c t 3 (A5 m c) rfl (x 1) (x 2) (fun r => X0_1 m c t (ix2 r (⟨3072 + (x 2).val, by omega⟩ : Fin 4096) : S256x4096.Idx))
      (fun r => blk1 m c t r _) (fun _ => 0) 0 j (by have : (((3 : Fin 4)).val = 3) := rfl; omega) h1 h2 rfl).trans (zero_add _))
    exact (zero_add _).symm
  · refine Eq.trans ?_ ((branch_of m c t 2 (A4 m c) rfl (x 1) (x 2) (fun r => X0_1 m c t (ix2 r (⟨2048 + (x 2).val, by omega⟩ : Fin 4096) : S256x4096.Idx))
      (fun r => blk1 m c t r _) (fun _ => 0) 0 j (by have : (((2 : Fin 4)).val = 2) := rfl; omega) h1 h2 rfl).trans (zero_add _))
    exact (zero_add _).symm
  · refine Eq.trans ?_ ((branch_of m c t 1 (A3 m c) rfl (x 1) (x 2) (fun r => X0_1 m c t (ix2 r (⟨1024 + (x 2).val, by omega⟩ : Fin 4096) : S256x4096.Idx))
      (fun r => blk1 m c t r _) (fun _ => 0) 0 j (by have : (((1 : Fin 4)).val = 1) := rfl; omega) h1 h2 rfl).trans (zero_add _))
    exact (zero_add _).symm
  · refine Eq.trans ?_ ((branch_of m c t 0 (A2 m c) rfl (x 1) (x 2) (fun r => X0_1 m c t (ix2 r (⟨(x 2).val, by omega⟩ : Fin 4096) : S256x4096.Idx))
      (fun r => (blk1 m c t r _).trans (congrArg (fun l => A1 m c (ix2 (row t r) l)) (Fin.ext (by simp)))) (fun _ => 0) 0 j (by have : (((0 : Fin 4)).val = 0) := rfl; omega) h1 h2 rfl).trans (zero_add _))
    exact (zero_add _).symm

set_option maxHeartbeats 1600000 in
/-- A later point. -/
theorem later_15 (c : Dev nD) (t : Fin cfg0.N) (h : ¬t.val % 16 = 0) (j : S4x256x1024.Idx) :
    (outsAt0 m c t.val t.isLt).2.2.2.2.2.2 j = (outsAt0 m c (t.val - 1) (Nat.lt_of_le_of_lt (Nat.sub_le _ _) t.isLt)).2.2.2.2.2.2 j + partBranch m c t j := by
  rw [outsAt0_B m c t h]; frame_out
  generalize (outsAt0 m c (t.val - 1) (Nat.lt_of_le_of_lt (Nat.sub_le _ _) t.isLt)).2.2.2.2.2.2 = prev
  canon_tiles x h
  all_goals open_payloads
  all_goals pointwise [logi_tanh, blk0, blk2, blk3, blk4, blk5, blk7, blk8]
  · refine Eq.trans ?_ (branch_of m c t 3 (A5 m c) rfl (x 1) (x 2) (fun r => X0_1 m c t (ix2 r (⟨3072 + (x 2).val, by omega⟩ : Fin 4096) : S256x4096.Idx))
      (fun r => blk1 m c t r _) prev (prev (ix3 3 (x 1) (x 2))) j (by have : (((3 : Fin 4)).val = 3) := rfl; omega) h1 h2 rfl)
    rfl
  · refine Eq.trans ?_ (branch_of m c t 2 (A4 m c) rfl (x 1) (x 2) (fun r => X0_1 m c t (ix2 r (⟨2048 + (x 2).val, by omega⟩ : Fin 4096) : S256x4096.Idx))
      (fun r => blk1 m c t r _) prev (prev (ix3 2 (x 1) (x 2))) j (by have : (((2 : Fin 4)).val = 2) := rfl; omega) h1 h2 rfl)
    rfl
  · refine Eq.trans ?_ (branch_of m c t 1 (A3 m c) rfl (x 1) (x 2) (fun r => X0_1 m c t (ix2 r (⟨1024 + (x 2).val, by omega⟩ : Fin 4096) : S256x4096.Idx))
      (fun r => blk1 m c t r _) prev (prev (ix3 1 (x 1) (x 2))) j (by have : (((1 : Fin 4)).val = 1) := rfl; omega) h1 h2 rfl)
    rfl
  · refine Eq.trans ?_ (branch_of m c t 0 (A2 m c) rfl (x 1) (x 2) (fun r => X0_1 m c t (ix2 r (⟨(x 2).val, by omega⟩ : Fin 4096) : S256x4096.Idx))
      (fun r => (blk1 m c t r _).trans (congrArg (fun l => A1 m c (ix2 (row t r) l)) (Fin.ext (by simp)))) prev (prev (ix3 0 (x 1) (x 2))) j (by have : (((0 : Fin 4)).val = 0) := rfl; omega) h1 h2 rfl)
    rfl

/-- Result 6 is the gradient of the branch weights. -/
theorem final_15 (c : Dev nD) : (dats m 0 c).arrAt 15 (cfgs 0).N
    = dwbs (A0 m c) (A1 m c) (A2 m c) (A3 m c) (A4 m c) (A5 m c) (A7 m c) := by
  refine (dats m 0 c).arrAt_eq_of_after_last 15 t0_15 (by decide +kernel) _ fun j => ?_
  blk_simp
  rw [after0_15, Pipeline.eq_sum_fin_of_reset_step_apply_last (fun n h => (outsAt0 m c n h).2.2.2.2.2.2) 16 (fun _ => 0)
    (fun t j => partBranch m c t j)
    (fun t h j => first_15 m c t h j)
    (fun t h j => later_15 m c t h j)
    (le_of_eq N_0) t0_15 rfl j, zero_add]
  pointwise [partBranch, dwbs, dwb]
  exact Fin.sum_mul_add_congr fun s k hl => by rfl

end Cert.Merge

end
-- ==== Proof.Merge.Reference.lean ====
/- The reference's results, read at an index, are the plain formulas. -/
module

public import proofs.«01_k».proof.Proof.Gen.ReferenceIdeal.Read
public import proofs.«01_k».proof.Proof.Merge.Spec

@[expose] public section

set_option maxRecDepth 16384

noncomputable section

open Idealize.ShloMosaic
open scoped BigOperators

namespace Cert.Merge

open Cert.ReferenceIdeal Cert.ReferenceIdeal.Read

variable (x0 : FVec Ideal Rows .f32) (x1 : FVec Ideal Proj .f32) (x2 x3 x4 x5 : FVec Ideal Mix .bf16)
  (x6 : FVec Ideal Branch .bf16) (x7 : FVec Ideal Out .bf16)

/-- The reference's gates. -/
theorem ref_gate (s : Fin 4096) (n : Fin 4) (d : Fin 1024) :
    val_main_v20 (F := Ideal) x1 (ix3 s n d : S4096x4x1024.Idx) = gate x1 n s d := by
  pointwise [val_main_v20, val_main_v19, val_main_v18, val_main_v17, val_main_v16, val_main_v15, val_main_v14, val_main_v0,
    val_main_cst, val_main_cst_0, gate, logi]

/-- The reference stacks the four mixers' outputs. -/
theorem ref_stack (s : Fin 4096) (n : Fin 4) (k : Fin 256) :
    val_main_v11 (F := Ideal) x2 x3 x4 x5 (ix3 s n k : S4096x4x256.Idx) = pick x2 x3 x4 x5 n (ix2 s k) := by
  fin_vals n with hn <;>
  pointwise [val_main_v11, val_main_v10, val_main_v9, val_main_v8, val_main_v7, val_main_v4, val_main_v3, val_main_v2,
    val_main_v1, pick, hn]

/-- The reference's projections. -/
theorem ref_proj (s : Fin 4096) (n : Fin 4) (d : Fin 1024) :
    val_main_v13 (F := Ideal) x2 x3 x4 x5 x6 (ix3 s n d : S4096x4x1024.Idx) = proj (pick x2 x3 x4 x5 n) x6 n s d := by
  pointwise [val_main_v13, val_main_v12, val_main_v5, proj, ref_stack]
  exact Finset.sum_congr rfl fun k _ => mul_comm _ _

/-- The reference's gradient of the merged row. -/
theorem ref_dm (s : Fin 4096) (d : Fin 1024) :
    val_main_v29 (F := Ideal) x0 x7 (ix2 s d : S4096x1024.Idx) = dm x0 x7 s d := by
  pointwise [val_main_v29, val_main_v6, dm]

/-- The reference's gradient of the projections. -/
theorem ref_dpn (s : Fin 4096) (n : Fin 4) (d : Fin 1024) :
    val_main_v35 (F := Ideal) x0 x1 x7 (ix3 n d s : S4x1024x4096.Idx) = dpn x0 x1 x7 n s d := by
  pointwise [val_main_v35, val_main_v31, val_main_v30, ref_gate, ref_dm, dpn]
  exact mul_comm _ _

/-- The reference's gradient of the mixers' outputs, stacked. -/
theorem ref_dy (s : Fin 4096) (n : Fin 4) (k : Fin 256) :
    val_main_v37 (F := Ideal) x0 x1 x6 x7 (ix3 s n k : S4096x4x256.Idx) = dy x0 x1 x6 x7 n (ix2 s k) := by
  pointwise [val_main_v37, val_main_v36, val_main_v5, ref_dpn, dy]

/-- The reference's gradient of what mixer 0 returned. -/
theorem ref_v41 : val_main_v41 (F := Ideal) x0 x1 x6 x7 = dy x0 x1 x6 x7 0 := by
  funext i; idx_vars i
  pointwise [val_main_v41, val_main_v40, ref_dy]

/-- The reference's gradient of what mixer 1 returned. -/
theorem ref_v43 : val_main_v43 (F := Ideal) x0 x1 x6 x7 = dy x0 x1 x6 x7 1 := by
  funext i; idx_vars i
  pointwise [val_main_v43, val_main_v42, ref_dy]

/-- The reference's gradient of what mixer 2 returned. -/
theorem ref_v45 : val_main_v45 (F := Ideal) x0 x1 x6 x7 = dy x0 x1 x6 x7 2 := by
  funext i; idx_vars i
  pointwise [val_main_v45, val_main_v44, ref_dy]

/-- The reference's gradient of what mixer 3 returned. -/
theorem ref_v47 : val_main_v47 (F := Ideal) x0 x1 x6 x7 = dy x0 x1 x6 x7 3 := by
  funext i; idx_vars i
  pointwise [val_main_v47, val_main_v46, ref_dy]

/-- The reference's merged rows. -/
theorem ref_merged (s : Fin 4096) (d : Fin 1024) :
    val_main_v25 (F := Ideal) x1 x2 x3 x4 x5 x6 (ix2 s d : S4096x1024.Idx) = merged x1 x2 x3 x4 x5 x6 s d := by
  pointwise [val_main_v25, val_main_v24, val_main_cst_2, ref_gate, ref_proj, merged]
  rw [Fin.sum_univ_four]; rfl

/-- The reference's gradient of the output weight. -/
theorem ref_v28 : val_main_v28 (F := Ideal) x0 x1 x2 x3 x4 x5 x6 = dwo x0 x1 x2 x3 x4 x5 x6 := by
  funext i; idx_vars i
  pointwise [val_main_v28, val_main_v27, ref_merged, dwo]
  exact Finset.sum_congr rfl fun k _ => mul_comm _ _

/-- The reference's gradient of the branch weights. -/
theorem ref_v39 : val_main_v39 (F := Ideal) x0 x1 x2 x3 x4 x5 x7 = dwbs x0 x1 x2 x3 x4 x5 x7 := by
  funext i; idx_vars i
  pointwise [val_main_v39, val_main_v38, ref_dpn, ref_stack, dwbs, dwb]
  exact Finset.sum_congr rfl fun k _ => mul_comm _ _

/-- The reference's gradient of the merge logits, in the columns of the projection. -/
theorem ref_v49 (s : Fin 4096) (l : Fin 7680) :
    val_main_v49 (F := Ideal) x0 x1 x2 x3 x4 x5 x6 x7 (ix2 s l : S4096x7680.Idx) = dlogs x0 x1 x2 x3 x4 x5 x6 x7 s l := by
  by_cases h : l.val < 4096
  · pointwise [val_main_v49, val_main_v48, val_main_v34, val_main_v33, val_main_v32, val_main_v30, val_main_v23, val_main_v22, val_main_v21,
      val_main_cst_1, val_main_cst_3, ref_gate, ref_proj, ref_dm, dlogs, dlog, h]
    exact (mul_assoc _ _ _).symm
  · pointwise [val_main_v49, val_main_cst_3, dlogs, h]

end Cert.Merge

end
-- ==== Proof.Merge.Claim.lean ====
/- The claims about the gradient of the gated merge, put together. -/
module

public import proofs.«01_k».proof.Defs
public import proofs.«01_k».proof.Proof.Merge.Mixers
public import proofs.«01_k».proof.Proof.Merge.Logits
public import proofs.«01_k».proof.Proof.Merge.Weights
public import proofs.«01_k».proof.Proof.Merge.Reference
public import proofs.«01_k».proof.Proof.Gen.KernelIdeal.Value
public import proofs.«01_k».proof.Proof.Gen.ReferenceIdeal.Run
public import Idealize.ShloMosaic.Lib.Quiescent

@[expose] public section

set_option maxRecDepth 16384

noncomputable section

namespace Cert.Merge

open Idealize.ShloMosaic Idealize.SL.Sem

/-- The side conditions of the mask. -/
theorem mask_facts : Cert.On_written.Facts where
  bcast_S_S4096x7680 := by decide
  bcast_S_S4096x256 := by decide
  bcast_S_S1024x1024 := by decide
  bcast_S_S4x256x1024 := by decide

/-- The reference leaves its arguments as they were. -/
theorem frame_reference : Cert.quiescent_ReferenceIdeal := fun m ρ _ =>
  (θ_run Cert.ReferenceIdeal.defs _ _).mono
    (fun r h => ⟨fun c => (h c).2.2.2.2.2.2.2, sem_eq_zero_of_no_sems (by decide) r.2⟩)
    (Cert.ReferenceIdeal.Value.run (F := Ideal) m ρ)

/-- Where the mask is set, the column is one of the merge logits'. -/
theorem lt_of_mask (n : ℕ) (h : n < 7680) (e : IntOp.cmpi .slt (BitVec.ofNat 32 n) 4096#32 = 1#1) : n < 4096 := by
  revert e
  have : (BitVec.ofNat 32 n).toInt = n := by
    rw [BitVec.toInt_eq_toNat_cond, BitVec.toNat_ofNat]; omega
  by_cases hn : n < 4096
  · exact fun _ => hn
  · simp [IntOp.cmpi, BitVec.slt, this, hn]

section

open Cert.KernelIdeal

variable (m : (ℓ : Loc nD τ sig) → Buf (Elt Ideal) ℓ)

/-- The kernel's run, with its results named. -/
theorem run_kernel (g : Dev nD → PrngReg) :
    θ_run (defs (F := Ideal)) (onTc (τ := τ) (main (F := Ideal))) ⟨m, fun _ => 0, g⟩ fun r => ∀ c : Dev nD,
      (∀ i : (⟨2, ![4096, 7680]⟩ : Shape).Idx, (i 1).val < 4096 → r.2.mem ((c.tc : Thread nD τ).loc main_v58_0) i
        = dlogs (A0 m c) (A1 m c) (A2 m c) (A3 m c) (A4 m c) (A5 m c) (A6 m c) (A7 m c) (i 0) (i 1))
      ∧ r.2.mem ((c.tc : Thread nD τ).loc main_v58_1) = dy (A0 m c) (A1 m c) (A6 m c) (A7 m c) 0
      ∧ r.2.mem ((c.tc : Thread nD τ).loc main_v58_2) = dy (A0 m c) (A1 m c) (A6 m c) (A7 m c) 1
      ∧ r.2.mem ((c.tc : Thread nD τ).loc main_v58_3) = dy (A0 m c) (A1 m c) (A6 m c) (A7 m c) 2
      ∧ r.2.mem ((c.tc : Thread nD τ).loc main_v58_4) = dy (A0 m c) (A1 m c) (A6 m c) (A7 m c) 3
      ∧ r.2.mem ((c.tc : Thread nD τ).loc main_v58_5) = dwo (A0 m c) (A1 m c) (A2 m c) (A3 m c) (A4 m c) (A5 m c) (A6 m c)
      ∧ r.2.mem ((c.tc : Thread nD τ).loc main_v58_6) = dwbs (A0 m c) (A1 m c) (A2 m c) (A3 m c) (A4 m c) (A5 m c) (A7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
    obtain ⟨h0, h1, h2, h3, h4, h5, h6, args⟩ := h c
    refine ⟨fun i hi => ?_, h1.trans (final_10 m c), h2.trans (final_11 m c), h3.trans (final_12 m c), h4.trans (final_13 m c),
      h5.trans (final_14 m c), h6.trans (final_15 m c), args⟩
    refine (congrFun (h0.trans (final_9 m c)) i).trans ?_
    exact if_pos hi)
    (Value.run_blocks (F := Ideal) m g)

end

section

open Cert.ReferenceIdeal Cert.ReferenceIdeal.Value Cert.ReferenceIdeal.Read

variable (m : (ℓ : Loc nD τ sig) → Buf (Elt Ideal) ℓ)

/-- The reference's run, with its results named. -/
theorem run_reference (g : Dev nD → PrngReg)
    (x0 : Dev nD → FVec Ideal Rows .f32) (x1 : Dev nD → FVec Ideal Proj .f32) (x2 x3 x4 x5 : Dev nD → FVec Ideal Mix .bf16)
    (x6 : Dev nD → FVec Ideal Branch .bf16) (x7 : Dev nD → FVec Ideal Out .bf16)
    (e : ∀ c : Dev nD, m ((c.tc : Thread nD τ).loc main_arg0) = x0 c ∧ m ((c.tc : Thread nD τ).loc main_arg1) = x1 c
      ∧ m ((c.tc : Thread nD τ).loc main_arg2) = x2 c ∧ m ((c.tc : Thread nD τ).loc main_arg3) = x3 c
      ∧ m ((c.tc : Thread nD τ).loc main_arg4) = x4 c ∧ m ((c.tc : Thread nD τ).loc main_arg5) = x5 c
      ∧ m ((c.tc : Thread nD τ).loc main_arg6) = x6 c ∧ m ((c.tc : Thread nD τ).loc main_arg7) = x7 c) :
    θ_run (defs (F := Ideal)) (onTc (τ := τ) (main (F := Ideal))) ⟨m, fun _ => 0, g⟩ fun r => ∀ c : Dev nD,
      (∀ i : (⟨2, ![4096, 7680]⟩ : Shape).Idx, r.2.mem ((c.tc : Thread nD τ).loc main_v49) i
        = dlogs (x0 c) (x1 c) (x2 c) (x3 c) (x4 c) (x5 c) (x6 c) (x7 c) (i 0) (i 1))
      ∧ r.2.mem ((c.tc : Thread nD τ).loc main_v41) = dy (x0 c) (x1 c) (x6 c) (x7 c) 0
      ∧ r.2.mem ((c.tc : Thread nD τ).loc main_v43) = dy (x0 c) (x1 c) (x6 c) (x7 c) 1
      ∧ r.2.mem ((c.tc : Thread nD τ).loc main_v45) = dy (x0 c) (x1 c) (x6 c) (x7 c) 2
      ∧ r.2.mem ((c.tc : Thread nD τ).loc main_v47) = dy (x0 c) (x1 c) (x6 c) (x7 c) 3
      ∧ r.2.mem ((c.tc : Thread nD τ).loc main_v28) = dwo (x0 c) (x1 c) (x2 c) (x3 c) (x4 c) (x5 c) (x6 c)
      ∧ r.2.mem ((c.tc : Thread nD τ).loc main_v39) = dwbs (x0 c) (x1 c) (x2 c) (x3 c) (x4 c) (x5 c) (x7 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
    obtain ⟨h0, h1, h2, h3, h4, h5, h6, args⟩ := h c
    obtain ⟨e0, e1, e2, e3, e4, e5, e6, e7⟩ := e c
    refine ⟨fun i => ?_, ?_, ?_, ?_, ?_, ?_, ?_, args⟩
    · refine (congrFun (h0.trans (val_main_v49_eq ..)) i).trans ?_
      have ei : i = (ix2 (i 0) (i 1) : Cert.ReferenceIdeal.S4096x7680.Idx) := by funext a; fin_cases a <;> rfl
      refine (congrArg _ ei).trans ((ref_v49 ..).trans ?_)
      rw [e0, e1, e2, e3, e4, e5, e6, e7]
    · refine h1.trans ((val_main_v41_eq ..).trans ((ref_v41 ..).trans ?_)); rw [e0, e1, e6, e7]
    · refine h2.trans ((val_main_v43_eq ..).trans ((ref_v43 ..).trans ?_)); rw [e0, e1, e6, e7]
    · refine h3.trans ((val_main_v45_eq ..).trans ((ref_v45 ..).trans ?_)); rw [e0, e1, e6, e7]
    · refine h4.trans ((val_main_v47_eq ..).trans ((ref_v47 ..).trans ?_)); rw [e0, e1, e6, e7]
    · refine h5.trans ((val_main_v28_eq ..).trans ((ref_v28 ..).trans ?_)); rw [e0, e1, e2, e3, e4, e5, e6]
    · refine h6.trans ((val_main_v39_eq ..).trans ((ref_v39 ..).trans ?_)); rw [e0, e1, e2, e3, e4, e5, e7])
    (run (F := Ideal) m g)

end

/-- Both programs, from memories that agree on the arguments, end with the same results. -/
theorem algebraic [Cert.On_written.Facts] : Cert.algebraic_KernelIdeal_ReferenceIdeal_on_written := by
  intro m g m' g' _ h
  refine ⟨fun c i => dlogs (A0 m c) (A1 m c) (A2 m c) (A3 m c) (A4 m c) (A5 m c) (A6 m c) (A7 m c) (i 0) (i 1),
    fun c => dy (A0 m c) (A1 m c) (A6 m c) (A7 m c) 0, fun c => dy (A0 m c) (A1 m c) (A6 m c) (A7 m c) 1,
    fun c => dy (A0 m c) (A1 m c) (A6 m c) (A7 m c) 2, fun c => dy (A0 m c) (A1 m c) (A6 m c) (A7 m c) 3,
    fun c => dwo (A0 m c) (A1 m c) (A2 m c) (A3 m c) (A4 m c) (A5 m c) (A6 m c),
    fun c => dwbs (A0 m c) (A1 m c) (A2 m c) (A3 m c) (A4 m c) (A5 m c) (A7 m c), ?_, ?_⟩
  · refine (θ_run Cert.KernelIdeal.defs _ _).mono (fun r h c => ?_) (run_kernel m g)
    obtain ⟨h0, h1, h2, h3, h4, h5, h6, args⟩ := h c
    exact ⟨fun i hi => h0 i (lt_of_mask (i 1).val (i 1).isLt hi), fun i _ => congrFun h1 i, fun i _ => congrFun h2 i,
      fun i _ => congrFun h3 i, fun i _ => congrFun h4 i, fun i _ => congrFun h5 i, fun i _ => congrFun h6 i, args⟩
  · refine (θ_run Cert.ReferenceIdeal.defs _ _).mono (fun r h c => ?_)
      (run_reference m' g' (fun c => A0 m c) (fun c => A1 m c) (fun c => A2 m c) (fun c => A3 m c) (fun c => A4 m c)
        (fun c => A5 m c) (fun c => A6 m c) (fun c => A7 m c) h)
    obtain ⟨h0, h1, h2, h3, h4, h5, h6, args⟩ := h c
    exact ⟨fun i _ => h0 i, fun i _ => congrFun h1 i, fun i _ => congrFun h2 i,
      fun i _ => congrFun h3 i, fun i _ => congrFun h4 i, fun i _ => congrFun h5 i, fun i _ => congrFun h6 i, args⟩

end Cert.Merge

end
-- ==== Proof.Projection.Spec.lean ====
/- The input projection of a layer and its gradient, written as plain formulas over the extended reals. -/
module

public import Idealize.ShloMosaic.Lib.Pointwise
public import Idealize.ShloMosaic.Lib.IdealHost

@[expose] public section

noncomputable section

open Idealize.ShloMosaic
open scoped BigOperators

namespace Cert.Projection

/-- The residual stream: one row for each token, one column for each model coordinate. -/
abbrev Rows : Shape := ⟨2, ![4096, 1024]⟩
/-- The gain of the norm. -/
abbrev Gain : Shape := ⟨1, ![1024]⟩
/-- The whole weight of the projection, in the order in which the model partitions its columns. -/
abbrev Weight : Shape := ⟨2, ![1024, 7684]⟩
/-- The projection, in the order in which the step stores its columns. -/
abbrev Proj : Shape := ⟨2, ![4096, 7680]⟩
/-- The forget gate's logits, four columns in use out of 128. -/
abbrev Forget : Shape := ⟨2, ![4096, 128]⟩

/-- The reciprocal root of a row's mean square. -/
def scale (x : FVec Ideal Rows .f32) (s : Fin 4096) : EReal :=
  Ideal.rsqrt (Ideal.div (∑ d : Fin 1024, x (ix2 s d) * x (ix2 s d)) (Ideal.ofBits .f32 0x44800000#32) + Ideal.ofBits .f32 0x358637BD#32)

/-- The normed row. -/
def norm (x : FVec Ideal Rows .f32) (g : FVec Ideal Gain .f32) (s : Fin 4096) (d : Fin 1024) : EReal :=
  x (ix2 s d) * scale x s * g (ix1 d)

/-- The model's column that the step stores at column `l`. -/
def colVal (l : ℕ) : ℕ :=
  if l < 4096 then 3588 + l else if l < 4864 then 768 + (l - 4096) else if l < 5632 then 1796 + (l - 4864)
  else if l < 6144 then l - 5632 else if l < 6656 then 2820 + (l - 6144) else if l < 6912 then 512 + (l - 6656)
  else if l < 7168 then 1540 + (l - 6912) else if l < 7424 then 2564 + (l - 7168) else 3332 + (l - 7424)

theorem colVal_lt (l : ℕ) (h : l < 7680) : colVal l < 7684 := by unfold colVal; split_ifs <;> omega

/-- The column of each of the nine parts. -/
theorem colVal_spec (l : ℕ) : (l < 4096 → colVal l = 3588 + l) ∧ (4096 ≤ l → l < 4864 → colVal l = 768 + (l - 4096))
    ∧ (4864 ≤ l → l < 5632 → colVal l = 1796 + (l - 4864)) ∧ (5632 ≤ l → l < 6144 → colVal l = l - 5632)
    ∧ (6144 ≤ l → l < 6656 → colVal l = 2820 + (l - 6144)) ∧ (6656 ≤ l → l < 6912 → colVal l = 512 + (l - 6656))
    ∧ (6912 ≤ l → l < 7168 → colVal l = 1540 + (l - 6912)) ∧ (7168 ≤ l → l < 7424 → colVal l = 2564 + (l - 7168))
    ∧ (7424 ≤ l → colVal l = 3332 + (l - 7424)) := by
  unfold colVal
  refine ⟨?_, ?_, ?_, ?_, ?_, ?_, ?_, ?_, ?_⟩ <;> intros <;> split_ifs <;> omega

/-- The same, between column indices. -/
def col (l : Fin 7680) : Fin 7684 := ⟨colVal l.val, colVal_lt l.val l.isLt⟩

/-- The forget gate's columns among the model's. -/
def forgetCol (l : Fin 128) (h : l.val < 4) : Fin 7684 := ⟨1536 + l.val, by omega⟩

/-- The column, given by its value. -/
theorem col_eq (l : Fin 7680) (k : Fin 7684) (h : k.val = colVal l.val) : k = col l := Fin.ext h

/-- The integer zero as a float is zero. -/
theorem sitofp_zero (φ : FTy) : FloatOps.sitofp (F := Ideal) φ 0#32 = 0 := by
  change ((((0#32 : BitVec 32).toInt : ℤ) : ℝ) : EReal) = 0
  simp

/-- One entry of the projection. -/
def entry (x : FVec Ideal Rows .f32) (g : FVec Ideal Gain .f32) (w : FVec Ideal Weight .bf16) (s : Fin 4096) (l : Fin 7684) : EReal :=
  ∑ d : Fin 1024, norm x g s d * w (ix2 d l)

/-- The normed rows, as an array. -/
def normed (x : FVec Ideal Rows .f32) (g : FVec Ideal Gain .f32) : FVec Ideal Rows .bf16 := fun i => norm x g (i 0) (i 1)

/-- The projection, as an array. -/
def projected (x : FVec Ideal Rows .f32) (g : FVec Ideal Gain .f32) (w : FVec Ideal Weight .bf16) : FVec Ideal Proj .f32 :=
  fun i => entry x g w (i 0) (col (i 1))

/-- The forget gate's logits, as an array padded with zeros. -/
def forget (x : FVec Ideal Rows .f32) (g : FVec Ideal Gain .f32) (w : FVec Ideal Weight .bf16) : FVec Ideal Forget .f32 :=
  fun i => if h : (i 1).val < 4 then entry x g w (i 0) (forgetCol (i 1) h) else 0

end Cert.Projection

end
-- ==== Proof.Projection.Reference.lean ====
/- The reference of the input projection, read at an index. -/
module

public import proofs.«01_k».proof.Proof.Gen.Reference3Ideal.Read
public import proofs.«01_k».proof.Proof.Projection.Spec

@[expose] public section

set_option maxRecDepth 16384

noncomputable section

open Idealize.ShloMosaic
open scoped BigOperators

namespace Cert.Projection

open Cert.Reference3Ideal Cert.Reference3Ideal.Read

variable (x : FVec Ideal Rows .f32) (g : FVec Ideal Gain .f32) (w : FVec Ideal Weight .bf16)

/-- The reference's normed rows. -/
theorem ref_norm (s : Fin 4096) (d : Fin 1024) :
    val_main_v12 (F := Ideal) x g (ix2 s d : S4096x1024.Idx) = norm x g s d := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, norm, scale]

/-- The reference's projection, in the model's order of columns. -/
theorem ref_entry (s : Fin 4096) (l : Fin 7684) :
    val_main_v14 (F := Ideal) x g w (ix2 s l : S4096x7684.Idx) = entry x g w s l := by
  pointwise [val_main_v14, val_main_v13, ref_norm, entry]

theorem ref_v27 : val_main_v27 (F := Ideal) x g = normed x g := by
  funext i; idx_vars i
  pointwise [val_main_v27, ref_norm, normed]

theorem ref_v26 : val_main_v26 (F := Ideal) x g w = forget x g w := by
  funext i; idx_vars i
  by_cases h : (i1 : Fin 128).val < 4
  · pointwise [val_main_v26, val_main_v18, val_main_c, val_main_call0_v0, ref_entry, sitofp_zero, forget, forgetCol, h]
  · pointwise [val_main_v26, val_main_v18, val_main_c, val_main_call0_v0, ref_entry, sitofp_zero, forget, forgetCol, h]

theorem ref_v25 : val_main_v25 (F := Ideal) x g w = projected x g w := by
  funext i; idx_vars i
  pointwise [val_main_v25, val_main_v15, val_main_v16, val_main_v17, val_main_v19, val_main_v20, val_main_v21, val_main_v22,
    val_main_v23, val_main_v24, ref_entry, projected]
  have hc := colVal_spec i1.val
  split_ifs <;> exact congrArg (entry x g w i0) (col_eq i1 _ (by first | omega | (dsimp only; omega)))

end Cert.Projection

end
-- ==== Proof.Projection.Results.lean ====
/- What the call of the input projection leaves in its three results. -/
module

public import proofs.«01_k».proof.Proof.Gen.Kernel3Ideal.Value
public import proofs.«01_k».proof.Proof.Projection.Spec
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

namespace Cert.Projection

open Cert.Kernel3Ideal Cert.Kernel3Ideal.Gen

variable (m : (ℓ : Loc nD τ sig) → Buf (Elt Ideal) ℓ)

/-- The residual stream, as the initial memory holds it on a device. -/
def argX (c : Dev nD) : FVec Ideal Rows .f32 := m ((c.tc : Thread nD τ).loc main_arg0)
/-- The norm's gain. -/
def argG (c : Dev nD) : FVec Ideal Gain .f32 := m ((c.tc : Thread nD τ).loc main_arg1)
/-- The projection's weight. -/
def argW (c : Dev nD) : FVec Ideal Weight .bf16 := m ((c.tc : Thread nD τ).loc main_arg2)

/-- Every window's block index at every grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0]
    ∧ win0_6.index t = ![t.val, 0] :=
  (by decide +kernel : ∀ t : Fin grid0.N, _)

/-- The row of the arrays that a row of a point's block is. -/
def row (t : Fin cfg0.N) (r : Fin 256) : Fin 4096 := ⟨t.val * 256 + r.val, by have h : t.val < 16 := t.isLt; have h3 := r.isLt; omega⟩

/-- A choice is a value both of whose branches are it. -/
theorem dite_to {α : Type} {p : Prop} [Decidable p] {a : p → α} {b : ¬p → α} {v : α} (ha : ∀ h, a h = v) (hb : ∀ h, b h = v) :
    dite p a b = v := by
  by_cases h : p
  · rw [dif_pos h, ha]
  · rw [dif_neg h, hb]

set_option maxHeartbeats 4000000 in
/-- The host regroups the columns of the weight. -/
theorem host_w (c : Dev nD) (d : Fin 1024) (l : Fin 7680) :
    V m c main_v15 (ix2 d l : S1024x7680.Idx) = argW m c (ix2 d (col l)) := by
  simp only [V, hostOps0, hostOps0_1, List.flatten_cons, List.flatten_nil, List.append_nil, List.cons_append, List.nil_append]
  after_reads_simp
  dsimp only [Matrix.cons_val]
  after_reads_simp
  pointwise [argW]
  have hc := colVal_spec l.val
  have hl := l.isLt
  repeat' (refine dite_to (fun h => ?_) (fun h => ?_))
  all_goals exact congrArg (fun k => argW m c (ix2 d k)) (col_eq l _ (by dsimp only; omega))

/-- The host takes the forget gate's columns out of the weight. -/
theorem host_wbf (c : Dev nD) (d : Fin 1024) (l : Fin 128) :
    V m c main_v17 (ix2 d l : S1024x128.Idx) = if h : l.val < 4 then argW m c (ix2 d (forgetCol l h)) else 0 := by
  simp only [V, hostOps0, hostOps0_1, List.flatten_cons, List.flatten_nil, List.append_nil, List.cons_append, List.nil_append]
  entry_read
  simp only [StableHlo.TRef.toBuf, StableHlo.TRef.ofBuf, cast_eq]
  by_cases h : l.val < 4
  · pointwise [argW, forgetCol, h, sitofp_zero]
  · pointwise [argW, forgetCol, h, sitofp_zero]

theorem host_g (c : Dev nD) (z : Fin 1) (d : Fin 1024) :
    V m c main_v4 (ix2 z d : S1x1024.Idx) = argG m c (ix1 d) := by
  simp only [V, hostOps0, hostOps0_1, List.flatten_cons, List.flatten_nil, List.append_nil, List.cons_append, List.nil_append]
  entry_read
  pointwise [argG]

theorem blk0 (c : Dev nD) (t : Fin cfg0.N) (r : Fin 256) (e : Fin 1024) :
    iblk m c 0 t (ix2 r e : S256x1024.Idx) = argX m c (ix2 (row t r) e) := by
  blk_simp [iblk]
  blk_ext [idx_val t, row]

theorem blk1 (c : Dev nD) (t : Fin cfg0.N) (z : Fin 1) (e : Fin 1024) :
    iblk m c 1 t (ix2 z e : S1x1024.Idx) = argG m c (ix1 e) := by
  rw [← host_g m c z e]
  blk_simp [iblk]
  blk_ext [idx_val t, row]

theorem blk2 (c : Dev nD) (t : Fin cfg0.N) (d : Fin 1024) (l : Fin 7680) :
    iblk m c 2 t (ix2 d l : S1024x7680.Idx) = argW m c (ix2 d (col l)) := by
  rw [← host_w]
  blk_simp [iblk]
  blk_ext [idx_val t, row]

theorem blk3 (c : Dev nD) (t : Fin cfg0.N) (d : Fin 1024) (l : Fin 128) :
    iblk m c 3 t (ix2 d l : S1024x128.Idx) = if h : l.val < 4 then argW m c (ix2 d (forgetCol l h)) else 0 := by
  rw [← host_wbf]
  blk_simp [iblk]
  blk_ext [idx_val t, row]

/-- Where a point's block of the projection lies. -/
theorem emb4 (t : Fin cfg0.N) (y : S256x7680.Idx) :
    ((cfg0.win 4).blk t).view.emb y = (ix2 (row t (y 0)) (y 1) : S4096x7680.Idx) := by
  blk_ext [idx_val t, row]

/-- Where a point's block of the forget gate's logits lies. -/
theorem emb5 (t : Fin cfg0.N) (y : S256x128.Idx) :
    ((cfg0.win 5).blk t).view.emb y = (ix2 (row t (y 0)) (y 1) : S4096x128.Idx) := by
  blk_ext [idx_val t, row]

/-- Where a point's block of the normed rows lies. -/
theorem emb6 (t : Fin cfg0.N) (y : S256x1024.Idx) :
    ((cfg0.win 6).blk t).view.emb y = (ix2 (row t (y 0)) (y 1) : S4096x1024.Idx) := by
  blk_ext [idx_val t, row]

set_option maxHeartbeats 1600000 in
/-- The third result is the normed rows. -/
theorem final_6 (c : Dev nD) : (dats m 0 c).arrAt 6 (cfgs 0).N = normed (argX m c) (argG m c) := by
  refine (dats m 0 c).arrAt_eq_of_covers 6 _ (by decide +kernel) fun t hf y => ?_
  rw [emb6]
  blk_simp; rw [after0_6]
  unfold outsAt0; dsimp only; frame_out
  open_payloads
  pointwise [blk0, blk1, blk2, blk3, normed, norm, scale]
  have ey : (y : S256x1024.Idx) = (ix2 (y 0) (y 1) : S256x1024.Idx) := by funext a; fin_cases a <;> rfl
  exact congrArg (· * _ * _) ((congrArg (iblk m c 0 t) ey).trans (blk0 m c t (y 0) (y 1)))

set_option maxHeartbeats 1600000 in
/-- The second result is the forget gate's logits. -/
theorem final_5 (c : Dev nD) : (dats m 0 c).arrAt 5 (cfgs 0).N = forget (argX m c) (argG m c) (argW m c) := by
  refine (dats m 0 c).arrAt_eq_of_covers 5 _ (by decide +kernel) fun t hf y => ?_
  rw [emb5]
  blk_simp; rw [after0_5]
  unfold outsAt0; dsimp only; frame_out
  open_payloads
  pointwise [blk0, blk1, blk2, blk3, forget, entry, norm, scale]
  by_cases h : (y 1).val < 4
  · simp only [dif_pos h]
  · simp only [dif_neg h, mul_zero, Finset.sum_const_zero]

set_option maxHeartbeats 1600000 in
/-- The first result is the projection. -/
theorem final_4 (c : Dev nD) : (dats m 0 c).arrAt 4 (cfgs 0).N = projected (argX m c) (argG m c) (argW m c) := by
  refine (dats m 0 c).arrAt_eq_of_covers 4 _ (by decide +kernel) fun t hf y => ?_
  rw [emb4]
  blk_simp; rw [after0_4]
  unfold outsAt0; dsimp only; frame_out
  open_payloads
  pointwise [blk0, blk1, blk2, blk3, projected, entry, norm, scale]

end Cert.Projection

end
-- ==== Proof.Projection.Claim.lean ====
/- The claims about the input projection, put together. -/
module

public import proofs.«01_k».proof.Defs
public import proofs.«01_k».proof.Proof.Projection.Reference
public import proofs.«01_k».proof.Proof.Projection.Results
public import proofs.«01_k».proof.Proof.Gen.Reference3Ideal.Run
public import Idealize.ShloMosaic.Lib.Quiescent

@[expose] public section

set_option maxRecDepth 16384

noncomputable section

namespace Cert.Projection

open Idealize.ShloMosaic Idealize.SL.Sem

/-- The reference leaves its arguments as they were. -/
theorem frame_reference : Cert.quiescent_Reference3Ideal := fun m ρ _ =>
  (θ_run Cert.Reference3Ideal.defs _ _).mono
    (fun r h => ⟨fun c => (h c).2.2.2, sem_eq_zero_of_no_sems (by decide) r.2⟩)
    (Cert.Reference3Ideal.Value.run (F := Ideal) m ρ)

/-- Both programs, from memories that agree on the arguments, end with the same results. -/
theorem algebraic : Cert.algebraic_Kernel3Ideal_Reference3Ideal := by
  intro m g m' g' _ h
  refine ⟨fun c => projected (argX m c) (argG m c) (argW m c), fun c => forget (argX m c) (argG m c) (argW m c),
    fun c => normed (argX m c) (argG m c), ?_, ?_⟩
  · refine (θ_run Cert.Kernel3Ideal.defs _ _).mono (fun r k c => ?_) (Cert.Kernel3Ideal.Value.run_blocks (F := Ideal) m g)
    obtain ⟨h0, h1, h2, args⟩ := k c
    exact ⟨h0.trans (final_4 m c), h1.trans (final_5 m c), h2.trans (final_6 m c), args⟩
  · refine (θ_run Cert.Reference3Ideal.defs _ _).mono (fun r k c => ?_) (Cert.Reference3Ideal.Value.run (F := Ideal) m' g')
    obtain ⟨h0, h1, h2, args⟩ := k c
    obtain ⟨e0, e1, e2⟩ := h c
    refine ⟨h0.trans ((Cert.Reference3Ideal.Read.val_main_v25_eq ..).trans ((ref_v25 ..).trans ?_)),
      h1.trans ((Cert.Reference3Ideal.Read.val_main_v26_eq ..).trans ((ref_v26 ..).trans ?_)),
      h2.trans ((Cert.Reference3Ideal.Read.val_main_v27_eq ..).trans ((ref_v27 ..).trans ?_)), args⟩
    · unfold argX argG argW; rw [e0, e1, e2]
    · unfold argX argG argW; rw [e0, e1, e2]
    · unfold argX argG; rw [e0, e1]

end Cert.Projection

end
-- ==== Proof.MergeForward.Reference.lean ====
/- The reference of the gated merge itself, read at an index. -/
module

public import proofs.«01_k».proof.Proof.Gen.Reference4Ideal.Read
public import proofs.«01_k».proof.Proof.Merge.Spec

@[expose] public section

set_option maxRecDepth 16384

noncomputable section

open Idealize.ShloMosaic
open scoped BigOperators

namespace Cert.Merge.Forward

open Cert.Reference4Ideal Cert.Reference4Ideal.Read

variable (x0 : FVec Ideal Rows .f32) (x1 : FVec Ideal Proj .f32) (x2 x3 x4 x5 : FVec Ideal Mix .bf16)
  (x6 : FVec Ideal Branch .bf16) (x7 : FVec Ideal Out .bf16)

/-- The merged rows, as an array. -/
def rows (p : FVec Ideal Proj .f32) (ya yb yc yd : FVec Ideal Mix .bf16) (w : FVec Ideal Branch .bf16) : FVec Ideal Rows .bf16 :=
  fun i => merged p ya yb yc yd w (i 0) (i 1)

/-- The residual stream after the layer: what it was, plus the merged rows times the output weight. -/
def next (x : FVec Ideal Rows .f32) (p : FVec Ideal Proj .f32) (ya yb yc yd : FVec Ideal Mix .bf16)
    (w : FVec Ideal Branch .bf16) (wo : FVec Ideal Out .bf16) : FVec Ideal Rows .f32 :=
  fun i => x i + ∑ d : Fin 1024, merged p ya yb yc yd w (i 0) d * wo (ix2 d (i 1))

/-- The reference's gates. -/
theorem ref_gate (s : Fin 4096) (n : Fin 4) (d : Fin 1024) :
    val_main_v19 (F := Ideal) x1 (ix3 s n d : S4096x4x1024.Idx) = gate x1 n s d := by
  pointwise [val_main_v19, val_main_v18, val_main_v17, val_main_v16, val_main_v15, val_main_v14, val_main_v13, val_main_v12,
    val_main_cst, val_main_cst_0, gate, logi]

/-- The reference stacks the four mixers' outputs. -/
theorem ref_stack (s : Fin 4096) (n : Fin 4) (k : Fin 256) :
    val_main_v8 (F := Ideal) x2 x3 x4 x5 (ix3 s n k : S4096x4x256.Idx) = pick x2 x3 x4 x5 n (ix2 s k) := by
  fin_vals n with hn <;>
  pointwise [val_main_v8, val_main_v7, val_main_v6, val_main_v5, val_main_v4, val_main_v3, val_main_v2,
    val_main_v1, val_main_v0, pick, hn]

/-- The reference's projections. -/
theorem ref_proj (s : Fin 4096) (n : Fin 4) (d : Fin 1024) :
    val_main_v11 (F := Ideal) x2 x3 x4 x5 x6 (ix3 s n d : S4096x4x1024.Idx) = proj (pick x2 x3 x4 x5 n) x6 n s d := by
  pointwise [val_main_v11, val_main_v10, val_main_v9, proj, ref_stack]
  exact Finset.sum_congr rfl fun k _ => mul_comm _ _

/-- The reference's merged rows. -/
theorem ref_merged (s : Fin 4096) (d : Fin 1024) :
    val_main_v21 (F := Ideal) x1 x2 x3 x4 x5 x6 (ix2 s d : S4096x1024.Idx) = merged x1 x2 x3 x4 x5 x6 s d := by
  pointwise [val_main_v21, val_main_v20, val_main_cst_1, ref_gate, ref_proj, merged]
  rw [Fin.sum_univ_four]; rfl

theorem ref_v25 : val_main_v25 (F := Ideal) x1 x2 x3 x4 x5 x6 = rows x1 x2 x3 x4 x5 x6 := by
  funext i; idx_vars i
  pointwise [val_main_v25, ref_merged, rows]

theorem ref_v24 : val_main_v24 (F := Ideal) x0 x1 x2 x3 x4 x5 x6 x7 = next x0 x1 x2 x3 x4 x5 x6 x7 := by
  funext i; idx_vars i
  pointwise [val_main_v24, val_main_v23, val_main_v22, ref_merged, next]

end Cert.Merge.Forward

end
-- ==== Proof.MergeForward.Results.lean ====
/- What the call of the gated merge leaves in its two results. -/
module

public import proofs.«01_k».proof.Proof.Gen.Kernel4Ideal.Value
public import proofs.«01_k».proof.Proof.MergeForward.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Merge.Forward

open Cert.Kernel4Ideal Cert.Kernel4Ideal.Gen

variable (m : (ℓ : Loc nD τ sig) → Buf (Elt Ideal) ℓ)

/-- Argument 0, as the initial memory holds it on a device; the others likewise. -/
def A0 (c : Dev nD) : FVec Ideal Rows .f32 := m ((c.tc : Thread nD τ).loc main_arg0)
/-- Argument 1. -/
def A1 (c : Dev nD) : FVec Ideal Proj .f32 := m ((c.tc : Thread nD τ).loc main_arg1)
/-- Argument 2. -/
def A2 (c : Dev nD) : FVec Ideal Mix .bf16 := m ((c.tc : Thread nD τ).loc main_arg2)
/-- Argument 3. -/
def A3 (c : Dev nD) : FVec Ideal Mix .bf16 := m ((c.tc : Thread nD τ).loc main_arg3)
/-- Argument 4. -/
def A4 (c : Dev nD) : FVec Ideal Mix .bf16 := m ((c.tc : Thread nD τ).loc main_arg4)
/-- Argument 5. -/
def A5 (c : Dev nD) : FVec Ideal Mix .bf16 := m ((c.tc : Thread nD τ).loc main_arg5)
/-- Argument 6. -/
def A6 (c : Dev nD) : FVec Ideal Branch .bf16 := m ((c.tc : Thread nD τ).loc main_arg6)
/-- Argument 7. -/
def A7 (c : Dev nD) : FVec Ideal Out .bf16 := m ((c.tc : Thread nD τ).loc main_arg7)

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![0, 0, 0]
    ∧ win0_7.index t = ![0, 0]
    ∧ win0_8.index t = ![t.val, 0]
    ∧ win0_9.index t = ![t.val, 0] :=
  (by decide +kernel : ∀ t : Fin grid0.N, _)

/-- The row of the arrays that a row of a point's block is. -/
def row (t : Fin cfg0.N) (r : Fin 512) : Fin 4096 := ⟨t.val * 512 + r.val, by have h : t.val < 8 := t.isLt; have h3 := r.isLt; omega⟩

theorem blk0 (c : Dev nD) (t : Fin cfg0.N) (r : Fin 512) (e : Fin 1024) :
    iblk m c 0 t (ix2 r e : S512x1024.Idx) = A0 m c (ix2 (row t r) e) := by
  blk_simp [iblk]
  blk_ext [idx_val t, row]

theorem blk1 (c : Dev nD) (t : Fin cfg0.N) (r : Fin 512) (e : Fin 4096) :
    X0_1 m c t (ix2 r e : S512x4096.Idx) = A1 m c (ix2 (row t r) ⟨e.val, by omega⟩) := by
  unfold X0_1 Pipeline.Window.fill
  rw [dif_pos (moved0_1 t _)]
  blk_simp [iblk]
  blk_ext [idx_val t, row]

theorem blk1_fill (c : Dev nD) (t : Fin cfg0.N) (r : Fin 512) (e : Fin 4096) :
    (win0 1).fill (grid0.coords t) dflt0_1 (iblk m c 1 t) (ix2 r e : S512x4096.Idx) = A1 m c (ix2 (row t r) ⟨e.val, by omega⟩) :=
  blk1 m c t r e

theorem blk2 (c : Dev nD) (t : Fin cfg0.N) (r : Fin 512) (e : Fin 256) :
    iblk m c 2 t (ix2 r e : S512x256.Idx) = A2 m c (ix2 (row t r) e) := by
  blk_simp [iblk]
  blk_ext [idx_val t, row]

theorem blk3 (c : Dev nD) (t : Fin cfg0.N) (r : Fin 512) (e : Fin 256) :
    iblk m c 3 t (ix2 r e : S512x256.Idx) = A3 m c (ix2 (row t r) e) := by
  blk_simp [iblk]
  blk_ext [idx_val t, row]

theorem blk4 (c : Dev nD) (t : Fin cfg0.N) (r : Fin 512) (e : Fin 256) :
    iblk m c 4 t (ix2 r e : S512x256.Idx) = A4 m c (ix2 (row t r) e) := by
  blk_simp [iblk]
  blk_ext [idx_val t, row]

theorem blk5 (c : Dev nD) (t : Fin cfg0.N) (r : Fin 512) (e : Fin 256) :
    iblk m c 5 t (ix2 r e : S512x256.Idx) = A5 m c (ix2 (row t r) e) := by
  blk_simp [iblk]
  blk_ext [idx_val t, row]

theorem blk6 (c : Dev nD) (t : Fin cfg0.N) (n : Fin 4) (k : Fin 256) (e : Fin 1024) :
    iblk m c 6 t (ix3 n k e : S4x256x1024.Idx) = A6 m c (ix3 n k e) := by
  blk_simp [iblk]
  blk_ext [idx_val t, row]

theorem blk7 (c : Dev nD) (t : Fin cfg0.N) (d : Fin 1024) (e : Fin 1024) :
    iblk m c 7 t (ix2 d e : S1024x1024.Idx) = A7 m c (ix2 d e) := by
  blk_simp [iblk]
  blk_ext [idx_val t, row]

/-- The merged row, from the merge logits' values. -/
theorem merged_of (p : FVec Ideal Proj .f32) (ya yb yc yd : FVec Ideal Mix .bf16) (w : FVec Ideal Branch .bf16) (s : Fin 4096)
    (d : Fin 1024) (v0 v1 v2 v3 : EReal) (h0 : v0 = p (ix2 s ⟨d.val, by omega⟩)) (h1 : v1 = p (ix2 s ⟨1024 + d.val, by omega⟩))
    (h2 : v2 = p (ix2 s ⟨2048 + d.val, by omega⟩)) (h3 : v3 = p (ix2 s ⟨3072 + d.val, by omega⟩)) :
    logi v0 * (∑ k : Fin 256, ya (ix2 s k) * w (ix3 0 k d)) + logi v1 * (∑ k : Fin 256, yb (ix2 s k) * w (ix3 1 k d))
      + logi v2 * (∑ k : Fin 256, yc (ix2 s k) * w (ix3 2 k d)) + logi v3 * (∑ k : Fin 256, yd (ix2 s k) * w (ix3 3 k d))
      = merged p ya yb yc yd w s d := by
  subst h0 h1 h2 h3
  rw [merged, gate0, gate1, gate2, gate3]; rfl

/-- Where a point's block of the merged rows lies. -/
theorem emb9 (t : Fin cfg0.N) (y : S512x1024.Idx) :
    ((cfg0.win 9).blk t).view.emb y = (ix2 (row t (y 0)) (y 1) : S4096x1024.Idx) := by
  blk_ext [idx_val t, row]

/-- Where a point's block of the residual stream lies. -/
theorem emb8 (t : Fin cfg0.N) (y : S512x1024.Idx) :
    ((cfg0.win 8).blk t).view.emb y = (ix2 (row t (y 0)) (y 1) : S4096x1024.Idx) := by
  blk_ext [idx_val t, row]

set_option maxHeartbeats 1600000 in
/-- The second result is the merged rows. -/
theorem final_9 (c : Dev nD) : (dats m 0 c).arrAt 9 (cfgs 0).N = rows (A1 m c) (A2 m c) (A3 m c) (A4 m c) (A5 m c) (A6 m c) := by
  refine (dats m 0 c).arrAt_eq_of_covers 9 _ (by decide +kernel) fun t hf y => ?_
  rw [emb9]
  blk_simp; rw [after0_9]
  unfold outsAt0; dsimp only; frame_out
  open_payloads
  pointwise [logi_tanh, blk2, blk3, blk4, blk5, blk6, blk7, rows]
  exact merged_of (A1 m c) (A2 m c) (A3 m c) (A4 m c) (A5 m c) (A6 m c) (row t (y 0)) (y 1) _ _ _ _
    (blk1_fill m c t (y 0) _) (blk1_fill m c t (y 0) _) (blk1_fill m c t (y 0) _) (blk1_fill m c t (y 0) _)

set_option maxHeartbeats 1600000 in
/-- The first result is the residual stream after the layer. -/
theorem final_8 (c : Dev nD) : (dats m 0 c).arrAt 8 (cfgs 0).N
    = next (A0 m c) (A1 m c) (A2 m c) (A3 m c) (A4 m c) (A5 m c) (A6 m c) (A7 m c) := by
  refine (dats m 0 c).arrAt_eq_of_covers 8 _ (by decide +kernel) fun t hf y => ?_
  rw [emb8]
  blk_simp; rw [after0_8]
  unfold outsAt0; dsimp only; frame_out
  open_payloads
  pointwise [logi_tanh, blk2, blk3, blk4, blk5, blk6, blk7, next]
  have ey : (y : S512x1024.Idx) = (ix2 (y 0) (y 1) : S512x1024.Idx) := by funext a; fin_cases a <;> rfl
  refine congrArg₂ (· + ·) ((congrArg (iblk m c 0 t) ey).trans (blk0 m c t (y 0) (y 1))) (Finset.sum_congr rfl fun d _ => congrArg (· * A7 m c (ix2 d (y 1))) ?_)
  exact merged_of (A1 m c) (A2 m c) (A3 m c) (A4 m c) (A5 m c) (A6 m c) (row t (y 0)) d _ _ _ _
    (blk1_fill m c t (y 0) _) (blk1_fill m c t (y 0) _) (blk1_fill m c t (y 0) _) (blk1_fill m c t (y 0) _)

end Cert.Merge.Forward

end
-- ==== Proof.MergeForward.Claim.lean ====
/- The claims about the gated merge itself, put together. -/
module

public import proofs.«01_k».proof.Defs
public import proofs.«01_k».proof.Proof.MergeForward.Results
public import proofs.«01_k».proof.Proof.Gen.Reference4Ideal.Run
public import Idealize.ShloMosaic.Lib.Quiescent

@[expose] public section

set_option maxRecDepth 16384

noncomputable section

namespace Cert.Merge.Forward

open Idealize.ShloMosaic Idealize.SL.Sem

/-- The reference leaves its arguments as they were. -/
theorem frame_reference : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run (F := Ideal) m ρ)

/-- Both programs, from memories that agree on the arguments, end with the same results. -/
theorem algebraic : Cert.algebraic_Kernel4Ideal_Reference4Ideal := by
  intro m g m' g' _ h
  refine ⟨fun c => next (A0 m c) (A1 m c) (A2 m c) (A3 m c) (A4 m c) (A5 m c) (A6 m c) (A7 m c),
    fun c => rows (A1 m c) (A2 m c) (A3 m c) (A4 m c) (A5 m c) (A6 m c), ?_, ?_⟩
  · refine (θ_run Cert.Kernel4Ideal.defs _ _).mono (fun r k c => ?_) (Cert.Kernel4Ideal.Value.run_blocks (F := Ideal) m g)
    obtain ⟨h0, h1, args⟩ := k c
    exact ⟨h0.trans (final_8 m c), h1.trans (final_9 m c), args⟩
  · refine (θ_run Cert.Reference4Ideal.defs _ _).mono (fun r k c => ?_) (Cert.Reference4Ideal.Value.run (F := Ideal) m' g')
    obtain ⟨h0, h1, args⟩ := k c
    obtain ⟨e0, e1, e2, e3, e4, e5, e6, e7⟩ := h c
    refine ⟨h0.trans ((Cert.Reference4Ideal.Read.val_main_v24_eq ..).trans ((ref_v24 ..).trans ?_)),
      h1.trans ((Cert.Reference4Ideal.Read.val_main_v25_eq ..).trans ((ref_v25 ..).trans ?_)), args⟩
    · unfold A0 A1 A2 A3 A4 A5 A6 A7; rw [e0, e1, e2, e3, e4, e5, e6, e7]
    · unfold A1 A2 A3 A4 A5 A6; rw [e1, e2, e3, e4, e5, e6]

end Cert.Merge.Forward

end
-- ==== Proof.WeightGrad.Spec.lean ====
/- The gradient of the input projection's weights, written as plain formulas over the extended reals. -/
module

public import proofs.«01_k».proof.Proof.Projection.Spec

@[expose] public section

noncomputable section

open Idealize.ShloMosaic
open scoped BigOperators

namespace Cert.WeightGrad

open Cert.Projection

/-- The gradient of the weights, columns in the order in which the step stores them. -/
abbrev Grad : Shape := ⟨2, ![1024, 7680]⟩
/-- The gradient of the forget gate's weights, four columns in use out of 128. -/
abbrev ForgetGrad : Shape := ⟨2, ![1024, 128]⟩

/-- One entry of the gradient: over all tokens, the normed row's coordinate times the incoming gradient. -/
def entry (x : FVec Ideal Rows .f32) (g : FVec Ideal Gain .f32) (p : FVec Ideal Proj .bf16) (d : Fin 1024) (l : Fin 7680) : EReal :=
  ∑ s : Fin 4096, norm x g s d * p (ix2 s l)

/-- One entry of the forget gate's. -/
def forgetEntry (x : FVec Ideal Rows .f32) (g : FVec Ideal Gain .f32) (q : FVec Ideal Forget .bf16) (d : Fin 1024) (l : Fin 128) : EReal :=
  ∑ s : Fin 4096, norm x g s d * q (ix2 s l)

/-- The gradient, as an array. -/
def grad (x : FVec Ideal Rows .f32) (g : FVec Ideal Gain .f32) (p : FVec Ideal Proj .bf16) : FVec Ideal Grad .bf16 :=
  fun i => entry x g p (i 0) (i 1)

/-- The forget gate's, as an array. -/
def forgetGrad (x : FVec Ideal Rows .f32) (g : FVec Ideal Gain .f32) (q : FVec Ideal Forget .bf16) : FVec Ideal ForgetGrad .bf16 :=
  fun i => forgetEntry x g q (i 0) (i 1)

end Cert.WeightGrad

end
-- ==== Proof.WeightGrad.Reference.lean ====
/- The reference of the weights' gradient, read at an index. -/
module

public import proofs.«01_k».proof.Proof.Gen.Reference2Ideal.Read
public import proofs.«01_k».proof.Proof.WeightGrad.Spec

@[expose] public section

set_option maxRecDepth 16384

noncomputable section

open Idealize.ShloMosaic
open scoped BigOperators

namespace Cert.WeightGrad

open Cert.Projection Cert.Reference2Ideal Cert.Reference2Ideal.Read

variable (x : FVec Ideal Rows .f32) (g : FVec Ideal Gain .f32) (p : FVec Ideal Proj .bf16) (q : FVec Ideal Forget .bf16)

/-- A choice is a value both of whose branches are it. -/
theorem dite_to {α : Type} {c : Prop} [Decidable c] {a : c → α} {b : ¬c → α} {v : α} (ha : ∀ h, a h = v) (hb : ∀ h, b h = v) :
    dite c a b = v := by
  by_cases h : c
  · rw [dif_pos h, ha]
  · rw [dif_neg h, hb]

/-- The reference's normed rows. -/
theorem ref_norm (s : Fin 4096) (d : Fin 1024) :
    val_main_v12 (F := Ideal) x g (ix2 s d : S4096x1024.Idx) = norm x g s d := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, Projection.norm, scale]

set_option maxHeartbeats 1600000 in
/-- The incoming gradient in the model's order of columns, at a column of the stored ones. -/
theorem ref_part (s : Fin 4096) (l : Fin 7680) :
    val_main_v27 (F := Ideal) p q (ix2 s (col l) : S4096x7684.Idx) = p (ix2 s l) := by
  pointwise [val_main_v27, val_main_v26, val_main_v25, val_main_v24, val_main_v23, val_main_v22, val_main_v21, val_main_v20,
    val_main_v19, val_main_v18, val_main_v17, val_main_v16, val_main_v15]
  have hc := colVal_spec l.val
  have hv : (col l).val = colVal l.val := rfl
  have hl := l.isLt
  repeat' (refine dite_to (fun h => ?_) (fun h => ?_))
  all_goals
    first
    | exact congrArg (fun k => p (ix2 s k)) (Fin.ext (by dsimp only; omega))
    | (exfalso; omega)

set_option maxHeartbeats 1600000 in
/-- The same at a column of the forget gate's. -/
theorem ref_part_forget (s : Fin 4096) (l : Fin 128) (h4 : l.val < 4) :
    val_main_v27 (F := Ideal) p q (ix2 s (forgetCol l h4) : S4096x7684.Idx) = q (ix2 s l) := by
  pointwise [val_main_v27, val_main_v26, val_main_v25, val_main_v24, val_main_v23, val_main_v22, val_main_v21, val_main_v20,
    val_main_v19, val_main_v18, val_main_v17, val_main_v16, val_main_v15]
  have hv : (forgetCol l h4).val = 1536 + l.val := rfl
  repeat' (refine dite_to (fun h => ?_) (fun h => ?_))
  all_goals
    first
    | exact congrArg (fun k => q (ix2 s k)) (Fin.ext (by dsimp only; omega))
    | (exfalso; omega)

/-- The reference's gradient, in the model's order of columns. -/
theorem ref_grad (d : Fin 1024) (l : Fin 7684) :
    val_main_v29 (F := Ideal) x g p q (ix2 d l : S1024x7684.Idx)
      = ∑ s : Fin 4096, norm x g s d * val_main_v27 (F := Ideal) p q (ix2 s l : S4096x7684.Idx) := by
  pointwise [val_main_v29, val_main_v28, ref_norm]
  exact Finset.sum_congr rfl fun s _ => mul_comm _ _

theorem ref_entry (d : Fin 1024) (l : Fin 7680) :
    val_main_v29 (F := Ideal) x g p q (ix2 d (col l) : S1024x7684.Idx) = entry x g p d l := by
  rw [ref_grad]
  exact Finset.sum_congr rfl fun s _ => by rw [ref_part]

theorem ref_forget (d : Fin 1024) (l : Fin 128) (h : l.val < 4) :
    val_main_v29 (F := Ideal) x g p q (ix2 d (forgetCol l h) : S1024x7684.Idx) = forgetEntry x g q d l := by
  rw [ref_grad]
  exact Finset.sum_congr rfl fun s _ => by rw [ref_part_forget]

set_option maxHeartbeats 1600000 in
/-- The reference's first result. -/
theorem ref_v42 : val_main_v42 (F := Ideal) x g p q = grad x g p := by
  funext i; idx_vars i
  pointwise [val_main_v42, val_main_v40, val_main_v30, val_main_v31, val_main_v32, val_main_v34, val_main_v35, val_main_v36,
    val_main_v37, val_main_v38, val_main_v39, grad]
  refine Eq.trans ?_ (ref_entry x g p q i0 i1)
  have hc := colVal_spec i1.val
  split_ifs <;>
    exact congrArg (fun k => val_main_v29 (F := Ideal) x g p q (ix2 i0 k))
      (col_eq i1 _ (by first | omega | (dsimp only; omega)))

/-- The reference's second result, where the columns are in use. -/
theorem ref_v43 (i : S1024x128.Idx) (h : (i 1).val < 4) : val_main_v43 (F := Ideal) x g p q i = forgetGrad x g q i := by
  idx_vars i
  have h4 : (i1 : Fin 128).val < 4 := h
  pointwise [val_main_v43, val_main_v41, val_main_v33, val_main_c, val_main_call0_v0, forgetGrad, h4]
  exact ref_forget x g p q i0 i1 h4

end Cert.WeightGrad

end
-- ==== Proof.WeightGrad.Body.lean ====
/- One grid point of the gradient of the input projection's weights: what its body does to the buffers it is called
   with, whatever they hold. -/
module

public import proofs.«01_k».proof.Proof.Gen.Kernel2Ideal.Frame
public import proofs.«01_k».proof.Proof.Gen.Kernel2Ideal.Skeleton
public import Idealize.ShloMosaic.Lib.Pipeline.ValueKit
public import Idealize.ShloMosaic.Lib.VecWindow

@[expose] public section

set_option maxRecDepth 16384

noncomputable section

namespace Cert.WeightGrad

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point is at the first block of rows: the accumulator of its columns starts anew. -/
abbrev AtTop (i : grid0.Coords) : Prop :=
  Scalar.cmpi .ne (Scalar.extui (Scalar.cmpi .eq (BitVec.ofNat 32 (i 1).val) 0#32)) 0#32 = 1#1

/-- The point is at the first block of columns: there the forget gate's columns are taken along. -/
abbrev AtLeft (i : grid0.Coords) : Prop :=
  Scalar.cmpi .ne (Scalar.extui (Scalar.cmpi .eq (BitVec.ofNat 32 (i 0).val) 0#32)) 0#32 = 1#1

/-- The point is the first one: the forget gate's accumulator starts anew. -/
abbrev AtCorner (i : grid0.Coords) : Prop :=
  Scalar.cmpi .ne (Scalar.extui (Scalar.andi (Scalar.cmpi .eq (BitVec.ofNat 32 (i 0).val) 0#32)
    (Scalar.cmpi .eq (BitVec.ofNat 32 (i 1).val) 0#32))) 0#32 = 1#1

theorem atTop_iff : ∀ t : Fin grid0.N, AtTop (grid0.coords t) ↔ t.val % 4 = 0 := by decide +kernel
theorem atLeft_iff : ∀ t : Fin grid0.N, AtLeft (grid0.coords t) ↔ t.val < 4 := by decide +kernel
theorem atCorner_iff : ∀ t : Fin grid0.N, AtCorner (grid0.coords t) ↔ t.val = 0 := by decide +kernel
theorem cond2_iff : ∀ t : Fin grid0.N, k0_cond2 (grid0.coords t) = 1#1 ↔ t.val % 4 = 3 := by decide +kernel
theorem cond5_iff : ∀ t : Fin grid0.N, k0_cond5 (grid0.coords t) = 1#1 ↔ t.val = 3 := by decide +kernel

/-- The columns' accumulator after the point, from what it held and the two blocks read. -/
def cols (i : grid0.Coords) (a : Vec F S1024x1536 .f32) (x0 : Vec F S1024x1024 .bf16) (x1 : Vec F S1024x1536 .bf16) :
    Vec F S1024x1536 .f32 := k0_pay2 (if AtTop i then k0_pay1 else a) x0 x1

/-- The forget gate's accumulator after the point. -/
def gate (i : grid0.Coords) (a : Vec F S1024x128 .f32) (x0 : Vec F S1024x1024 .bf16) (x2 : Vec F S1024x128 .bf16) :
    Vec F S1024x128 .f32 := if AtLeft i then k0_pay5 (if AtCorner i then k0_pay4 else a) x0 x2 else a

/-- The first result's buffer after the point, from what it held and the accumulator. -/
def out3 (i : grid0.Coords) (d : Vec F S1024x1536 .bf16) (a : Vec F S1024x1536 .f32) : Vec F S1024x1536 .bf16 :=
  if k0_cond2 i = 1#1 then k0_pay3 a else d

/-- The second result's. -/
def out4 (i : grid0.Coords) (d : Vec F S1024x128 .bf16) (a : Vec F S1024x128 .f32) : Vec F S1024x128 .bf16 :=
  if k0_cond5 i = 1#1 then k0_pay6 a else d

theorem pay2_eq {w a : Vec F S1024x1536 .f32} {w0 x0 : Vec F S1024x1024 .bf16} {w1 x1 : Vec F S1024x1536 .bf16}
    (h : w = a) (h0 : w0 = x0) (h1 : w1 = x1) : k0_pay2 w w0 w1 = k0_pay2 a x0 x1 := by rw [h, h0, h1]

theorem pay5_eq {w a : Vec F S1024x128 .f32} {w0 x0 : Vec F S1024x1024 .bf16} {w2 x2 : Vec F S1024x128 .bf16}
    (h : w = a) (h0 : w0 = x0) (h2 : w2 = x2) : k0_pay5 w w0 w2 = k0_pay5 a x0 x2 := by rw [h, h0, h2]

set_option maxHeartbeats 4000000 in
/-- The body at a point leaves the inputs as they were and every other buffer at the functions above. -/
theorem body_run (c : Dev nD) (i : grid0.Coords)
    (hcorner : AtCorner i ↔ AtTop i ∧ AtLeft i) (hlast : k0_cond5 i = 1#1 ↔ k0_cond2 i = 1#1 ∧ AtLeft i)
    (arg2 : Memref sig .tc .vmem S1024x1024 .bf16) (harg2 : arg2.IsWhole)
    (arg3 : Memref sig .tc .vmem S1024x1536 .bf16) (harg3 : arg3.IsWhole)
    (arg4 : Memref sig .tc .vmem S1024x128 .bf16) (harg4 : arg4.IsWhole)
    (arg5 : Memref sig .tc .vmem S1024x1536 .bf16) (harg5 : arg5.IsWhole)
    (arg6 : Memref sig .tc .vmem S1024x128 .bf16) (harg6 : arg6.IsWhole)
    (arg7 : Memref sig .tc .vmem S1024x1536 .f32) (harg7 : arg7.IsWhole)
    (arg8 : Memref sig .tc .vmem S1024x128 .f32) (harg8 : arg8.IsWhole)
    (x0 : Vec F S1024x1024 .bf16) (x1 : Vec F S1024x1536 .bf16) (x2 : Vec F S1024x128 .bf16)
    (d3 : Vec F S1024x1536 .bf16) (d4 : Vec F S1024x128 .bf16) (a7 : Vec F S1024x1536 .f32) (a8 : Vec F S1024x128 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare d3
        ∗ owns (c : Thread nD τ) arg6 fullShare d4 ∗ owns (c : Thread nD τ) arg7 fullShare a7
        ∗ owns (c : Thread nD τ) arg8 fullShare a8
        ∗ (iprop(owns (c : Thread nD τ) arg2 fullShare x0 ∗ owns (c : Thread nD τ) arg3 fullShare x1
            ∗ owns (c : Thread nD τ) arg4 fullShare x2
            ∗ owns (c : Thread nD τ) arg5 fullShare (out3 i d3 (cols i a7 x0 x1))
            ∗ owns (c : Thread nD τ) arg6 fullShare (out4 i d4 (gate i a8 x0 x2))
            ∗ owns (c : Thread nD τ) arg7 fullShare (cols i a7 x0 x1)
            ∗ owns (c : Thread nD τ) arg8 fullShare (gate i a8 x0 x2)) -∗ K ⟨⟩))
      ⊢ wp frame (wpE (defs₀ (F := F)) Variants.none c none) E
          (cc0_inproj_bwd_w i arg2 harg2 arg3 harg3 arg4 harg4 arg5 harg5 arg6 harg6 arg7 harg7 arg8 harg8) K := by
  simp only [cc0_inproj_bwd_w_eq_skeleton]; unfold cc0_inproj_bwd_w_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf7; obtain rfl := harg8.eq_unread hf8
  have r2 {o : Fin 2 → ℕ} (inb) : arg2.view.readAt (Elt F) (Rect.unit o S1024x1024.size inb).toLoadRect (harg2.unread x0) = x0 := by
    rw [View.readAt_full, harg2.read_unread]
  have r3 {o : Fin 2 → ℕ} (inb) : arg3.view.readAt (Elt F) (Rect.unit o S1024x1536.size inb).toLoadRect (harg3.unread x1) = x1 := by
    rw [View.readAt_full, harg3.read_unread]
  have r4 {o : Fin 2 → ℕ} (inb) : arg4.view.readAt (Elt F) (Rect.unit o S1024x128.size inb).toLoadRect (harg4.unread x2) = x2 := by
    rw [View.readAt_full, harg4.read_unread]
  have r7 {o : Fin 2 → ℕ} (inb) : arg7.view.readAt (Elt F) (Rect.unit o S1024x1536.size inb).toLoadRect (harg7.unread a7) = a7 := by
    rw [View.readAt_full, harg7.read_unread]
  have r8 {o : Fin 2 → ℕ} (inb) : arg8.view.readAt (Elt F) (Rect.unit o S1024x128.size inb).toLoadRect (harg8.unread a8) = a8 := by
    rw [View.readAt_full, harg8.read_unread]
  by_cases h1 : AtTop i <;> by_cases h2 : k0_cond2 i = 1#1 <;> by_cases h4 : AtLeft i
  all_goals
    first
    | have h3 := hcorner.mpr ⟨h1, h4⟩
    | have h3 : ¬AtCorner i := fun h => absurd (hcorner.mp h).1 h1
    | have h3 : ¬AtCorner i := fun h => absurd (hcorner.mp h).2 h4
    first
    | have h5 := hlast.mpr ⟨h2, h4⟩
    | have h5 : ¬k0_cond5 i = 1#1 := fun h => absurd (hlast.mp h).1 h2
    | have h5 : ¬k0_cond5 i = 1#1 := fun h => absurd (hlast.mp h).2 h4
    sl_exec (disch := first | sl_exact h1 | sl_exact h2 | sl_exact h3 | sl_exact h4 | sl_exact h5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    have e7 : cols i a7 x0 x1 = k0_pay2 (if AtTop i then k0_pay1 else a7) x0 x1 := rfl
    have e8 : gate i a8 x0 x2 = if AtLeft i then k0_pay5 (if AtCorner i then k0_pay4 else a8) x0 x2 else a8 := rfl
    first | rw [if_pos h1] at e7 | rw [if_neg h1] at e7
    first | rw [if_pos h4] at e8 | rw [if_neg h4] at e8
    try first | rw [if_pos h3] at e8 | rw [if_neg h3] at e8
    isplitl [H3]
    · iexists _; isplitr
      swap; · iexact H3
      ipureintro
      unfold out3
      first
      | (have _ : ¬k0_cond2 i = 1#1 := h2)
        rw [if_neg h2]
        exact harg5.read_unread _
      | rw [if_pos h2, e7]
        refine Eq.trans (View.read_writes_full _ _ _ _ _) ?_
        refine congrArg k0_pay3 ?_
        refine Eq.trans (View.readCov_full _ _ _ _ _) ?_
        refine pay2_eq ?_ (by first | exact r2 _ | exact rfl) (by first | exact r3 _ | exact rfl)
        first
        | (have _ : AtTop i := h1)
          exact View.readCov_full _ _ _ _ _
        | exact r7 _
        | exact rfl
    isplitl [H4]
    · iexists _; isplitr
      swap; · iexact H4
      ipureintro
      unfold out4
      first
      | rw [if_neg h5]
        exact harg6.read_unread _
      | rw [if_pos h5, e8]
        refine Eq.trans (View.read_writes_full _ _ _ _ _) ?_
        refine congrArg k0_pay6 ?_
        refine Eq.trans (View.readCov_full _ _ _ _ _) ?_
        refine pay5_eq ?_ (by first | exact r2 _ | exact rfl) (by first | exact r4 _ | exact rfl)
        first
        | (have _ : AtCorner i := h3)
          exact View.readCov_full _ _ _ _ _
        | exact r8 _
        | exact rfl
    isplitl [H7]
    · iexists _; isplitr
      swap; · iexact H7
      ipureintro
      rw [e7]
      refine Eq.trans (View.read_writes_full _ _ _ _ _) ?_
      refine pay2_eq ?_ (by first | exact r2 _ | exact rfl) (by first | exact r3 _ | exact rfl)
      first
      | (have _ : AtTop i := h1)
        exact View.readCov_full _ _ _ _ _
      | exact r7 _
      | exact rfl
    iexists _; isplitr
    swap; · iexact H8
    ipureintro
    rw [e8]
    first
    | (have _ : AtLeft i := h4)
      refine Eq.trans (View.read_writes_full _ _ _ _ _) ?_
      refine pay5_eq ?_ (by first | exact r2 _ | exact rfl) (by first | exact r4 _ | exact rfl)
      first
      | (have _ : AtCorner i := h3)
        exact View.readCov_full _ _ _ _ _
      | exact r8 _
      | exact rfl
    | exact harg8.read_unread _

end Cert.WeightGrad

end
-- ==== Proof.WeightGrad.Run.lean ====
/- The run of the gradient of the input projection's weights: what the two accumulators hold after each point, what is
   written back, and that the arguments end as they were. -/
module

public import proofs.«01_k».proof.Proof.WeightGrad.Body
public import Idealize.ShloMosaic.Lib.Pipeline.TableIdle

@[expose] public section

set_option maxRecDepth 16384

noncomputable section

namespace Cert.WeightGrad

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The columns' accumulator after point `n`. -/
def colsAt (c : Dev nD) : (n : ℕ) → n < cfg0.N → Vec F S1024x1536 .f32
  | 0, h => cols (grid0.coords ⟨0, h⟩) k0_pay1 (iblk m c 0 ⟨0, h⟩) (iblk m c 1 ⟨0, h⟩)
  | n + 1, h => cols (grid0.coords ⟨n + 1, h⟩) (colsAt c n (by omega)) (iblk m c 0 ⟨n + 1, h⟩) (iblk m c 1 ⟨n + 1, h⟩)

/-- The forget gate's accumulator after point `n`. -/
def gateAt (c : Dev nD) : (n : ℕ) → n < cfg0.N → Vec F S1024x128 .f32
  | 0, h => gate (grid0.coords ⟨0, h⟩) k0_pay4 (iblk m c 0 ⟨0, h⟩) (iblk m c 2 ⟨0, h⟩)
  | n + 1, h => gate (grid0.coords ⟨n + 1, h⟩) (gateAt c n (by omega)) (iblk m c 0 ⟨n + 1, h⟩) (iblk m c 2 ⟨n + 1, h⟩)

/-- The forget gate's accumulator where it is complete: at the last block of rows under the first block of columns. -/
def gateDone (c : Dev nD) : Vec F S1024x128 .f32 := gateAt m c 3 (by decide)

/-- What the accumulators are known to hold before point `n`: nothing before the first, thereafter what the point before
    left. -/
def Held (c : Dev nD) (n : ℕ) (a7 : Vec F S1024x1536 .f32) (a8 : Vec F S1024x128 .f32) : Prop :=
  ∀ k (h : k < cfg0.N), n = k + 1 → a7 = colsAt m c k h ∧ a8 = gateAt m c k h

theorem cols_step (c : Dev nD) (t : Fin cfg0.N) (a7 : Vec F S1024x1536 .f32) (a8 : Vec F S1024x128 .f32) (h : Held m c t.val a7 a8) :
    cols (grid0.coords t) a7 (iblk m c 0 t) (iblk m c 1 t) = colsAt m c t.val t.isLt := by
  obtain ⟨n, hn⟩ := t
  cases n with
  | zero =>
    have h0 : AtTop (grid0.coords ⟨0, hn⟩) := (atTop_iff ⟨0, hn⟩).mpr rfl
    unfold colsAt cols; rw [if_pos h0, if_pos h0]
  | succ n =>
    rw [(h n (by omega) rfl).1]; rfl

theorem gate_step (c : Dev nD) (t : Fin cfg0.N) (a7 : Vec F S1024x1536 .f32) (a8 : Vec F S1024x128 .f32) (h : Held m c t.val a7 a8) :
    gate (grid0.coords t) a8 (iblk m c 0 t) (iblk m c 2 t) = gateAt m c t.val t.isLt := by
  obtain ⟨n, hn⟩ := t
  cases n with
  | zero =>
    have h0 : AtCorner (grid0.coords ⟨0, hn⟩) := (atCorner_iff ⟨0, hn⟩).mpr rfl
    have h1 : AtLeft (grid0.coords ⟨0, hn⟩) := (atLeft_iff ⟨0, hn⟩).mpr (Nat.zero_lt_succ 3)
    unfold gateAt gate; rw [if_pos h1, if_pos h1, if_pos h0, if_pos h0]
  | succ n =>
    rw [(h n (by omega) rfl).2]; rfl

theorem held_succ (c : Dev nD) (t : Fin cfg0.N) : Held m c (t.val + 1) (colsAt m c t.val t.isLt) (gateAt m c t.val t.isLt) := by
  intro k hk e
  obtain rfl : t.val = k := by omega
  exact ⟨rfl, rfl⟩

theorem held_zero (c : Dev nD) (a7 : Vec F S1024x1536 .f32) (a8 : Vec F S1024x128 .f32) : Held m c 0 a7 a8 := by
  intro k hk e; omega

/-- The core's own state between points: the two accumulators and the generator's register. -/
def inv (c : Dev nD) (n : ℕ) : sProp 𝕄 :=
  iprop(∃ a7 : Vec F S1024x1536 .f32, ∃ a8 : Vec F S1024x128 .f32, ⌜Held m c n a7 a8⌝
    ∗ owns (c : Thread nD τ) (Memref.whole cc0_scratch0) fullShare a7 ∗ owns (c : Thread nD τ) (Memref.whole cc0_scratch1) fullShare a8
    ∗ ∃ r, prngReg c r)

/-- The proof data of the one pipeline on a core. The second result's buffer is given, at every point, the contents with
    which it is written back: it is stored once, and no point before that is asked for them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (colsAt m c t.val t.isLt)
    | ⟨4, _⟩ => k0_pay6 (gateDone m c)
  Φ t := inv m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay3 (colsAt m c t.val t.isLt) := by dsimp only [dats]
theorem after_4 (c : Dev nD) (t : Fin cfg0.N) : (dats m 0 c).after 4 t = k0_pay6 (gateDone m c) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem kept_at_last : ∀ t : Fin cfg0.N, t.val % 20 = 19 → cfg0.fresh 4 t.val = false := by decide +kernel

/-- At the last point the second result's buffer still holds what it was stored with. -/
theorem before_4 (c : Dev nD) (t : Fin cfg0.N) (ht : t.val % 20 = 19) (d) : (dats m 0 c).before 4 t d = k0_pay6 (gateDone m c) := by
  rw [(dats m 0 c).before_out_traj 4 rfl (fun _ _ => rfl) (fun t ht _ _ => (after_4 m c t).trans (after_4 m c _).symm) _ t rfl d,
    kept_at_last t ht]
  exact after_4 m c _

theorem idle_3 : ∀ t : Fin cfg0.N, cfg0.idle 3 (grid0.coords t) = !(k0_cond2 (grid0.coords t) == 1#1) := by decide +kernel
theorem idle_4 : ∀ t : Fin cfg0.N, cfg0.idle 4 (grid0.coords t) = !(k0_cond5 (grid0.coords t) == 1#1) := by decide +kernel

/-- What the body leaves in the first result's buffer is what the pipeline asks for. -/
theorem leaves_3 (c : Dev nD) (t : Fin cfg0.N) (d) :
    (owns (c : Thread nD τ) (st0_3 t) fullShare (out3 (grid0.coords t) ((dats m 0 c).before 3 t d) (colsAt m c t.val t.isLt)) : sProp 𝕄)
      ⊢ (dats m 0 c).leavesExact 3 t := by
  by_cases h : k0_cond2 (grid0.coords t) = 1#1
  · rw [show (dats m 0 c).leavesExact 3 t = owns (c : Thread nD τ) (st0_3 t) fullShare ((dats m 0 c).after 3 t) from by
      unfold Dat.leavesExact; rw [idle_3 t, h]; rfl, after_3]
    unfold out3; rw [if_pos h]
  · rw [Dat.leavesExact_idle (dats m 0 c) 3 t (by rw [idle_3 t]; simpa using h)
      (by
        rw [Bool.eq_false_iff]; intro hf
        exact h ((cond2_iff t).mpr ((flush0_3 t).mp hf)))]
    unfold out3; rw [if_neg h]
    iintro H; iexists d; iexact H

/-- The same of the second result's. -/
theorem leaves_4 (c : Dev nD) (t : Fin cfg0.N) (d) :
    (owns (c : Thread nD τ) (st0_4 t) fullShare (out4 (grid0.coords t) ((dats m 0 c).before 4 t d) (gateAt m c t.val t.isLt)) : sProp 𝕄)
      ⊢ (dats m 0 c).leavesExact 4 t := by
  by_cases h : k0_cond5 (grid0.coords t) = 1#1
  · have ht := (cond5_iff t).mp h
    rw [show (dats m 0 c).leavesExact 4 t = owns (c : Thread nD τ) (st0_4 t) fullShare ((dats m 0 c).after 4 t) from by
      unfold Dat.leavesExact; rw [idle_4 t, h]; rfl, after_4]
    unfold out4; rw [if_pos h]
    obtain rfl : t = (⟨3, by decide⟩ : Fin cfg0.N) := Fin.ext ht
    exact .rfl
  · have hi : cfg0.idle 4 (grid0.coords t) = true := by rw [idle_4 t]; simpa using h
    unfold out4; rw [if_neg h]
    by_cases hl : t.val % 20 = 19
    · rw [show (dats m 0 c).leavesExact 4 t = owns (c : Thread nD τ) (st0_4 t) fullShare ((dats m 0 c).after 4 t) from by
        unfold Dat.leavesExact; rw [hi, (flush0_4 t).mpr hl], after_4, before_4 m c t hl]
    · rw [Dat.leavesExact_idle (dats m 0 c) 4 t hi (by
        rw [Bool.eq_false_iff]; intro hf
        exact hl ((flush0_4 t).mp hf))]
      iintro H; iexists d; iexact H

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem corner_of (t : Fin cfg0.N) : AtCorner (grid0.coords t) ↔ AtTop (grid0.coords t) ∧ AtLeft (grid0.coords t) := by
  rw [atCorner_iff t, atTop_iff t, atLeft_iff t]; omega

theorem last_of (t : Fin cfg0.N) : k0_cond5 (grid0.coords t) = 1#1 ↔ k0_cond2 (grid0.coords t) = 1#1 ∧ AtLeft (grid0.coords t) := by
  rw [cond5_iff t, cond2_iff t, atLeft_iff t]; omega

/-- The body at a point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.castSucc = inv m c t.val from rfl, show (dats m 0 c).Φ t.succ = inv m c (t.val + 1) from rfl,
    show (dats m 0 c).owesAt () t.succ = (dats m 0 c).owesAt () t.castSucc from rfl]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  rw [show (dats m 0 c).leavesExact 2 t = owns (c : Thread nD τ) (st0_2 t) fullShare ((dats m 0 c).after 2 t) from rfl, after_2]
  unfold inv
  iintro ⟨⟨%a7, %a8, %ha, H7, H8, HP⟩, Ho, ⟨%d0, H0⟩, ⟨%d1, H1⟩, ⟨%d2, H2⟩, ⟨%d3, H3⟩, ⟨%d4, H4⟩⟩
  iapply (body_run c (grid0.coords t) (corner_of t) (last_of t) _ _ _ _ _ _ _ _ _ _ _ _ _ _ (iblk m c 0 t) (iblk m c 1 t) (iblk m c 2 t)
    ((dats m 0 c).before 3 t d3) ((dats m 0 c).before 4 t d4) a7 a8 Set.univ _)
  isplitl [H0]; · iexact H0
  isplitl [H1]; · iexact H1
  isplitl [H2]; · iexact H2
  isplitl [H3]; · iexact H3
  isplitl [H4]; · iexact H4
  isplitl [H7]; · iexact H7
  isplitl [H8]; · iexact H8
  rw [cols_step m c t a7 a8 ha, gate_step m c t a7 a8 ha]
  iintro ⟨H0, H1, H2, H3, H4, H7, H8⟩
  isplitl [H7 H8 HP]
  · iexists _; iexists _; isplitr
    swap
    · isplitl [H7]; · iexact H7
      isplitl [H8]; · iexact H8
      iexact HP
    ipureintro; exact held_succ m c t
  isplitl [Ho]; · iexact Ho
  isplitl [H0]; · iexact H0
  isplitl [H1]; · iexact H1
  isplitl [H2]; · iexact H2
  isplitl [H3]; · iapply (leaves_3 m c t d3); iexact H3
  iapply (leaves_4 m c t d4); iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_in (c : Dev nD) : (Pipeline.ΦA spec0 c : sProp 𝕄) ⊢ inv m c 0 := by
  unfold Pipeline.ΦA inv
  rw [scopedRest0_eq]
  iintro ⟨⟨⟨%f, Hf⟩, ⟨%g, Hg⟩⟩, HP⟩
  iexists f; iexists g
  rw [owns_whole, owns_whole]
  isplitr; · ipureintro; exact held_zero m c f g
  isplitl [Hf]; · iexact Hf
  isplitl [Hg]; · iexact Hg
  iexact HP

theorem inv_out (c : Dev nD) (n : ℕ) : inv m c n ⊢ (Pipeline.ΦA spec0 c : sProp 𝕄) := by
  unfold Pipeline.ΦA inv
  rw [scopedRest0_eq]
  simp only [owns_whole]
  iintro ⟨%a7, %a8, %ha, H7, H8, HP⟩
  isplitl [H7 H8]
  · isplitl [H7]
    · iexists _; iexact H7
    iexists _; iexact H8
  iexact HP

set_option backward.isDefEq.respectTransparency.types false in
/-- The launch: every array ends at what the proof data say of it, and every counter at zero. -/
theorem run_arrays : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_in m c) (hout := fun c => inv_out m c _)

/-- The arguments end as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_arrays m ρ)))
    ((θ_run defs _ _).mono (fun _ h => h.2) (run_arrays m ρ))

/-- The two results end at what was written back to them, and the arguments as they were. -/
theorem run_results : θ_run defs (onTc (τ := τ) (main (F := F))) ⟨m, fun _ => 0, ρ⟩ (fun r => ∀ c : Dev nD,
      (r.2.mem ((c.tc : Thread nD τ).loc main_v14_0) = (dats m 0 c).arrAt 3 (cfgs 0).N
      ∧ r.2.mem ((c.tc : Thread nD τ).loc main_v14_1) = (dats m 0 c).arrAt 4 (cfgs 0).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨⟨(h.1.1 c).1 3, (h.1.1 c).1 4⟩, h.2.1 c⟩)
    (θ_run_and (run_arrays m ρ) (run_frame m ρ))

end Cert.WeightGrad

end
-- ==== Proof.WeightGrad.Results.lean ====
/- What the call of the weights' gradient leaves in its two results. -/
module

public import proofs.«01_k».proof.Proof.WeightGrad.Run
public import proofs.«01_k».proof.Proof.WeightGrad.Spec
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

namespace Cert.WeightGrad

open Cert.Projection Cert.Kernel2Ideal Cert.Kernel2Ideal.Gen

variable (m : (ℓ : Loc nD τ sig) → Buf (Elt Ideal) ℓ)

/-- The residual stream, as the initial memory holds it on a device. -/
def argX (c : Dev nD) : FVec Ideal Rows .f32 := m ((c.tc : Thread nD τ).loc main_arg0)
/-- The norm's gain. -/
def argG (c : Dev nD) : FVec Ideal Gain .f32 := m ((c.tc : Thread nD τ).loc main_arg1)
/-- The incoming gradient. -/
def argP (c : Dev nD) : FVec Ideal Proj .bf16 := m ((c.tc : Thread nD τ).loc main_arg2)
/-- The forget gate's. -/
def argQ (c : Dev nD) : FVec Ideal Forget .bf16 := m ((c.tc : Thread nD τ).loc main_arg3)

/-- Every window's block index at every grid point. -/
theorem idx_val : ∀ t : Fin cfg0.N, win0_0.index t = ![t.val % 4, 0]
    ∧ win0_1.index t = ![t.val % 4, t.val / 4]
    ∧ win0_2.index t = ![t.val % 4, 0]
    ∧ win0_3.index t = ![0, t.val / 4]
    ∧ win0_4.index t = ![0, 0] :=
  (by decide +kernel : ∀ t : Fin grid0.N, _)

/-- The row of the arrays that a row of a point's block is. -/
def row (t : Fin cfg0.N) (r : Fin 1024) : Fin 4096 := ⟨t.val % 4 * 1024 + r.val, by have h3 := r.isLt; omega⟩

/-- The column of the arrays that a column of a point's block is. -/
def lane (t : Fin cfg0.N) (l : Fin 1536) : Fin 7680 :=
  ⟨t.val / 4 * 1536 + l.val, by have h : t.val < 20 := t.isLt; have h3 := l.isLt; omega⟩

set_option maxHeartbeats 4000000 in
/-- The host norms the rows. -/
theorem host_h (c : Dev nD) (s : Fin 4096) (d : Fin 1024) :
    V m c main_v13 (ix2 s d : S4096x1024.Idx) = norm (argX m c) (argG m c) s d := by
  simp only [V, hostOps0]
  after_reads_simp
  pointwise [argX, argG, Projection.norm, scale]

theorem blk0 (c : Dev nD) (t : Fin cfg0.N) (r e : Fin 1024) :
    iblk m c 0 t (ix2 r e : S1024x1024.Idx) = norm (argX m c) (argG m c) (row t r) e := by
  rw [← host_h]
  blk_simp [iblk]
  blk_ext [idx_val t, row]

theorem blk1 (c : Dev nD) (t : Fin cfg0.N) (r : Fin 1024) (l : Fin 1536) :
    iblk m c 1 t (ix2 r l : S1024x1536.Idx) = argP m c (ix2 (row t r) (lane t l)) := by
  blk_simp [iblk]
  blk_ext [idx_val t, row, lane]

theorem blk2 (c : Dev nD) (t : Fin cfg0.N) (r : Fin 1024) (l : Fin 128) :
    iblk m c 2 t (ix2 r l : S1024x128.Idx) = argQ m c (ix2 (row t r) l) := by
  blk_simp [iblk]
  blk_ext [idx_val t, row]

/-- Where a point's block of the gradient lies. -/
theorem emb3 (t : Fin cfg0.N) (y : S1024x1536.Idx) :
    ((cfg0.win 3).blk t).view.emb y = (ix2 (y 0) (lane t (y 1)) : S1024x7680.Idx) := by
  blk_ext [idx_val t, lane]

/-- Where the block of the forget gate's lies. -/
theorem emb4 (t : Fin cfg0.N) (y : S1024x128.Idx) :
    ((cfg0.win 4).blk t).view.emb y = (ix2 (y 0) (y 1) : S1024x128.Idx) := by
  blk_ext [idx_val t]

theorem zero_cols (j : S1024x1536.Idx) : k0_pay1 (F := Ideal) j = 0 := by pointwise! [k0_pay1]

theorem step_cols (a : FVec Ideal S1024x1536 .f32) (h : FVec Ideal S1024x1024 .bf16) (b : FVec Ideal S1024x1536 .bf16) (j : S1024x1536.Idx) :
    k0_pay2 a h b j = a j + ∑ r : Fin 1024, h (ix2 r (j 0)) * b (ix2 r (j 1)) := by pointwise [k0_pay2]

theorem zero_gate (j : S1024x128.Idx) : k0_pay4 (F := Ideal) j = 0 := by pointwise! [k0_pay4]

theorem step_gate (a : FVec Ideal S1024x128 .f32) (h : FVec Ideal S1024x1024 .bf16) (b : FVec Ideal S1024x128 .bf16) (j : S1024x128.Idx) :
    k0_pay5 a h b j = a j + ∑ r : Fin 1024, h (ix2 r (j 0)) * b (ix2 r (j 1)) := by pointwise [k0_pay5]

/-- What a point adds to its columns' accumulator. -/
def partCols (c : Dev nD) (t : Fin cfg0.N) (j : S1024x1536.Idx) : EReal :=
  ∑ r : Fin 1024, norm (argX m c) (argG m c) (row t r) (j 0) * argP m c (ix2 (row t r) (lane t (j 1)))

/-- What a point under the first block of columns adds to the forget gate's. -/
def partGate (c : Dev nD) (t : Fin cfg0.N) (j : S1024x128.Idx) : EReal :=
  ∑ r : Fin 1024, norm (argX m c) (argG m c) (row t r) (j 0) * argQ m c (ix2 (row t r) (j 1))

theorem cols_first (c : Dev nD) (t : Fin cfg0.N) (h : t.val % 4 = 0) (j : S1024x1536.Idx) :
    colsAt m c t.val t.isLt j = 0 + partCols m c t j := by
  have hc : ∀ a, cols (grid0.coords t) a (iblk m c 0 t) (iblk m c 1 t) j = 0 + partCols m c t j := fun a => by
    unfold cols
    rw [if_pos ((atTop_iff t).mpr h), step_cols, zero_cols]
    pointwise [partCols, blk0, blk1]
  obtain ⟨n, hn⟩ := t
  cases n with
  | zero => exact hc _
  | succ n => exact hc _

theorem cols_next (c : Dev nD) (t : Fin cfg0.N) (h : ¬t.val % 4 = 0) (j : S1024x1536.Idx) :
    colsAt m c t.val t.isLt j = colsAt m c (t.val - 1) (Nat.lt_of_le_of_lt (Nat.sub_le _ _) t.isLt) j + partCols m c t j := by
  have hc : ∀ a, cols (grid0.coords t) a (iblk m c 0 t) (iblk m c 1 t) j = a j + partCols m c t j := fun a => by
    unfold cols
    rw [if_neg fun k => h ((atTop_iff t).mp k), step_cols]
    pointwise [partCols, blk0, blk1]
  obtain ⟨n, hn⟩ := t
  cases n with
  | zero => exact absurd rfl h
  | succ n => exact hc _

theorem gate_first (c : Dev nD) (t : Fin cfg0.N) (h : t.val = 0) (j : S1024x128.Idx) :
    gateAt m c t.val t.isLt j = 0 + partGate m c t j := by
  have hc : ∀ a, gate (grid0.coords t) a (iblk m c 0 t) (iblk m c 2 t) j = 0 + partGate m c t j := fun a => by
    unfold gate
    rw [if_pos ((atLeft_iff t).mpr (by omega)), if_pos ((atCorner_iff t).mpr h), step_gate, zero_gate]
    pointwise [partGate, blk0, blk2]
  obtain ⟨n, hn⟩ := t
  cases n with
  | zero => exact hc _
  | succ n => exact absurd h (Nat.succ_ne_zero n)

theorem gate_next (c : Dev nD) (t : Fin cfg0.N) (h : ¬t.val = 0) (h4 : t.val < 4) (j : S1024x128.Idx) :
    gateAt m c t.val t.isLt j = gateAt m c (t.val - 1) (Nat.lt_of_le_of_lt (Nat.sub_le _ _) t.isLt) j + partGate m c t j := by
  have hc : ∀ a, gate (grid0.coords t) a (iblk m c 0 t) (iblk m c 2 t) j = a j + partGate m c t j := fun a => by
    unfold gate
    rw [if_pos ((atLeft_iff t).mpr h4), if_neg fun k => h ((atCorner_iff t).mp k), step_gate]
    pointwise [partGate, blk0, blk2]
  obtain ⟨n, hn⟩ := t
  cases n with
  | zero => exact absurd rfl h
  | succ n => exact hc _

/-- The forget gate's accumulator, complete. -/
theorem gate_done (c : Dev nD) (j : S1024x128.Idx) : gateDone m c j = forgetEntry (argX m c) (argG m c) (argQ m c) (j 0) (j 1) := by
  have hb : ∀ n, n < 4 → n < cfg0.N := fun n h => Nat.lt_of_lt_of_le h (by decide)
  refine (Pipeline.eq_sum_fin_of_reset_step_apply_last (N := 4) (fun n h => gateAt m c n (hb n h)) 4 (fun _ => 0)
    (fun t j => partGate m c ⟨t.val, hb _ t.isLt⟩ j)
    (fun t h j => gate_first m c ⟨t.val, hb _ t.isLt⟩ (by have := t.isLt; dsimp only; omega) j)
    (fun t h j => gate_next m c ⟨t.val, hb _ t.isLt⟩ (by have := t.isLt; dsimp only; omega) t.isLt j)
    (le_refl 4) (3 : Fin 4) rfl j).trans ?_
  rw [zero_add]
  unfold partGate forgetEntry
  refine Fin.sum_mul_add_congr fun s k hl => ?_
  have e : row ⟨s.val, hb _ s.isLt⟩ k = ⟨s.val * 1024 + k.val, hl⟩ :=
    Fin.ext (by have := s.isLt; simp only [row]; omega)
  rw [← e]

set_option maxHeartbeats 1600000 in
/-- The first result is the gradient. -/
theorem final_3 (c : Dev nD) : (dats m 0 c).arrAt 3 (cfgs 0).N = grad (argX m c) (argG m c) (argP m c) := by
  refine (dats m 0 c).arrAt_eq_of_covers 3 _ (by decide +kernel) fun t hf y => ?_
  rw [emb3]
  have ht := (flush0_3 t).mp hf
  blk_simp; rw [after_3]
  refine Eq.trans (b := colsAt m c t.val t.isLt y) (by pointwise [k0_pay3]) ?_
  rw [Pipeline.eq_sum_fin_of_reset_step_apply_of_flush (fun n h => colsAt m c n h) 4 (fun _ => 0) (fun t j => partCols m c t j)
    (fun t h j => cols_first m c t h j) (fun t h j => cols_next m c t h j) t ht y, zero_add]
  unfold partCols
  refine Fin.sum_mul_add_congr fun s k hl => ?_
  have e : ∀ h, row ⟨4 * (t.val / 4) + s.val, h⟩ k = ⟨s.val * 1024 + k.val, hl⟩ := fun h =>
    Fin.ext (by have := s.isLt; simp only [row]; omega)
  have e' : ∀ h, lane ⟨4 * (t.val / 4) + s.val, h⟩ (y 1) = lane t (y 1) := fun h =>
    Fin.ext (by have := s.isLt; simp only [lane]; omega)
  rw [e, e']; rfl

set_option maxHeartbeats 1600000 in
/-- The second result is the forget gate's. -/
theorem final_4 (c : Dev nD) : (dats m 0 c).arrAt 4 (cfgs 0).N = forgetGrad (argX m c) (argG m c) (argQ m c) := by
  refine (dats m 0 c).arrAt_eq_of_covers 4 _ (by decide +kernel) fun t hf y => ?_
  rw [emb4]
  blk_simp; rw [after_4]
  refine Eq.trans (b := gateDone m c y) (by pointwise [k0_pay6]) ?_
  rw [gate_done]; rfl

end Cert.WeightGrad

end
-- ==== Proof.WeightGrad.Claim.lean ====
/- The claims about the gradient of the input projection's weights, put together. -/
module

public import proofs.«01_k».proof.Defs
public import proofs.«01_k».proof.Proof.WeightGrad.Reference
public import proofs.«01_k».proof.Proof.WeightGrad.Results
public import proofs.«01_k».proof.Proof.Gen.Kernel2
public import proofs.«01_k».proof.Proof.Gen.Reference2Ideal.Run
public import Idealize.ShloMosaic.Lib.Quiescent

@[expose] public section

set_option maxRecDepth 16384

noncomputable section

namespace Cert.WeightGrad

open Idealize.ShloMosaic Idealize.SL.Sem

/-- The side conditions of the mask. -/
theorem mask_facts : Cert.On_written2.Facts where
  bcast_S_S1024x7680 := by decide
  bcast_S_S1024x128 := by decide

/-- Where the mask is set, the column is one of the forget gate's. -/
theorem lt_of_mask : ∀ n : ℕ, n < 128 → IntOp.cmpi .slt (BitVec.ofNat 32 n) 4#32 = 1#1 → n < 4 := by decide

/-- The body table of the kernel as it runs is the one the ideal kernel has, over any float values. -/
theorem bodies_eq {F : FTy → Type} [FloatOps F] : Cert.Kernel2.defs₀ (F := F) = Cert.Kernel2Ideal.defs₀ (F := F) := by
  funext p l a
  match p with
  | .tc =>
    match l, a with
    | 0, (_, _) => rfl
  | .scScalar _ => rfl
  | .scVector _ _ => rfl

/-- So is the table of everything it may call. -/
theorem defs_eq {F : FTy → Type} [FloatOps F] : Cert.Kernel2.defs (F := F) = Cert.Kernel2Ideal.defs (F := F) :=
  congrArg (Pipeline.defs (Cert.Kernel2Ideal.pcfgs (F := F))) bodies_eq

/-- The kernel, as it runs, keeps its arguments and leaves its semaphores at zero. -/
theorem frame_kernel : Cert.quiescent_Kernel2 := fun m ρ _ => by
  have h := run_frame (F := Bits) m ρ
  rw [← defs_eq] at h
  exact h

/-- So does the reference. -/
theorem frame_reference : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run (F := Ideal) m ρ)

/-- Both programs, from memories that agree on the arguments, end with the same results. -/
theorem algebraic [Cert.On_written2.Facts] : Cert.algebraic_Kernel2Ideal_Reference2Ideal_on_written2 := by
  intro m g m' g' _ h
  refine ⟨fun c => grad (argX m c) (argG m c) (argP m c), fun c => forgetGrad (argX m c) (argG m c) (argQ m c), ?_, ?_⟩
  · refine (θ_run Cert.Kernel2Ideal.defs _ _).mono (fun r k c => ?_) (run_results (F := Ideal) m g)
    obtain ⟨⟨h0, h1⟩, args⟩ := k c
    exact ⟨fun i _ => congrFun (h0.trans (final_3 m c)) i, fun i _ => congrFun (h1.trans (final_4 m c)) i, args⟩
  · refine (θ_run Cert.Reference2Ideal.defs _ _).mono (fun r k c => ?_) (Cert.Reference2Ideal.Value.run (F := Ideal) m' g')
    obtain ⟨h0, h1, args⟩ := k c
    obtain ⟨e0, e1, e2, e3⟩ := h c
    refine ⟨fun i _ => ?_, fun i hi => ?_, args⟩
    · refine congrFun (h0.trans ((Cert.Reference2Ideal.Read.val_main_v42_eq ..).trans ((ref_v42 ..).trans ?_))) i
      unfold argX argG argP; rw [e0, e1, e2]
    · refine (congrFun (h1.trans (Cert.Reference2Ideal.Read.val_main_v43_eq ..)) i).trans
        ((ref_v43 _ _ _ _ i (lt_of_mask (i 1).val (i 1).isLt hi)).trans ?_)
      unfold argX argG argQ; rw [e0, e1, e3]

end Cert.WeightGrad

end
-- ==== Proof.InputGrad.Spec.lean ====
/- The gradient of the input projection's input and of its norm's gain, written as plain formulas over the extended reals. -/
module

public import proofs.«01_k».proof.Proof.Projection.Spec

@[expose] public section

noncomputable section

open Idealize.ShloMosaic
open scoped BigOperators

namespace Cert.InputGrad

open Cert.Projection

/-- One entry of the normed rows' gradient: over all columns, the incoming gradient times the weight. -/
def back (w : FVec Ideal Weight .bf16) (p : FVec Ideal Proj .bf16) (q : FVec Ideal Forget .bf16) (s : Fin 4096) (d : Fin 1024) : EReal :=
  (∑ l : Fin 128, q (ix2 s l) * (if h : l.val < 4 then w (ix2 d (forgetCol l h)) else 0))
    + ∑ l : Fin 7680, p (ix2 s l) * w (ix2 d (col l))

/-- One entry of the input's gradient: the gradient that passes the layer by, and the one back through the norm. -/
def inputEntry (x u : FVec Ideal Rows .f32) (g : FVec Ideal Gain .f32) (w : FVec Ideal Weight .bf16) (p : FVec Ideal Proj .bf16)
    (q : FVec Ideal Forget .bf16) (s : Fin 4096) (d : Fin 1024) : EReal :=
  u (ix2 s d) + scale x s * (back w p q s d * g (ix1 d) - x (ix2 s d) * scale x s
    * Ideal.div (∑ e : Fin 1024, x (ix2 s e) * scale x s * (back w p q s e * g (ix1 e))) (Ideal.ofBits .f32 0x44800000#32))

/-- One token's part of one entry of the gain's gradient. -/
def gainTerm (x : FVec Ideal Rows .f32) (w : FVec Ideal Weight .bf16) (p : FVec Ideal Proj .bf16) (q : FVec Ideal Forget .bf16)
    (s : Fin 4096) (d : Fin 1024) : EReal :=
  back w p q s d * (x (ix2 s d) * scale x s)

/-- The input's gradient, as an array. -/
def inputGrad (x u : FVec Ideal Rows .f32) (g : FVec Ideal Gain .f32) (w : FVec Ideal Weight .bf16) (p : FVec Ideal Proj .bf16)
    (q : FVec Ideal Forget .bf16) : FVec Ideal Rows .f32 :=
  fun i => inputEntry x u g w p q (i 0) (i 1)

/-- The gain's gradient, as an array. -/
def gainGrad (x : FVec Ideal Rows .f32) (w : FVec Ideal Weight .bf16) (p : FVec Ideal Proj .bf16) (q : FVec Ideal Forget .bf16) :
    FVec Ideal Gain .f32 :=
  fun i => ∑ s : Fin 4096, gainTerm x w p q s (i 0)

/-- The part that a stored column is in, and where the model has it. -/
theorem column_cases (l : ℕ) (hl : l < 7680) : (0 ≤ l ∧ l < 4096 ∧ colVal l = 3588 + l) ∨ (4096 ≤ l ∧ l < 4864 ∧ colVal l = 768 + (l - 4096))
    ∨ (4864 ≤ l ∧ l < 5632 ∧ colVal l = 1796 + (l - 4864)) ∨ (5632 ≤ l ∧ l < 6144 ∧ colVal l = l - 5632)
    ∨ (6144 ≤ l ∧ l < 6656 ∧ colVal l = 2820 + (l - 6144)) ∨ (6656 ≤ l ∧ l < 6912 ∧ colVal l = 512 + (l - 6656))
    ∨ (6912 ≤ l ∧ l < 7168 ∧ colVal l = 1540 + (l - 6912)) ∨ (7168 ≤ l ∧ l < 7424 ∧ colVal l = 2564 + (l - 7168))
    ∨ (7424 ≤ l ∧ l < 7680 ∧ colVal l = 3332 + (l - 7424)) := by
  unfold colVal; split_ifs <;> omega

set_option maxHeartbeats 1600000 in
/-- Every column is one of the forget gate's or one that the step stores, and no column is two of them. -/
theorem columns : Function.Bijective (fun z : Fin 4 ⊕ Fin 7680 =>
    Sum.elim (fun k => forgetCol ⟨k.val, by omega⟩ k.isLt) col z) := by
  refine (Fintype.bijective_iff_injective_and_card _).mpr ⟨?_, by simp⟩
  have hf : ∀ (k : Fin 4) (l : Fin 7680), 1536 + k.val ≠ colVal l.val := fun k l => by
    unfold colVal; split_ifs <;> omega
  rintro (k | l) (k' | l') h
  · have h' : 1536 + k.val = 1536 + k'.val := congrArg Fin.val h
    exact congrArg Sum.inl (Fin.ext (by omega))
  · exact absurd (congrArg Fin.val h) (hf k l')
  · exact absurd (congrArg Fin.val h).symm (hf k' l)
  · have h' : colVal l.val = colVal l'.val := congrArg Fin.val h
    refine congrArg Sum.inr (Fin.ext ?_)
    have hl' := l'.isLt
    rcases column_cases l.val l.isLt with ⟨_, _, _⟩ | ⟨_, _, _⟩ | ⟨_, _, _⟩ | ⟨_, _, _⟩ | ⟨_, _, _⟩ | ⟨_, _, _⟩ | ⟨_, _, _⟩ | ⟨_, _, _⟩ | ⟨_, _, _⟩ <;>
    rcases column_cases l'.val l'.isLt with ⟨_, _, _⟩ | ⟨_, _, _⟩ | ⟨_, _, _⟩ | ⟨_, _, _⟩ | ⟨_, _, _⟩ | ⟨_, _, _⟩ | ⟨_, _, _⟩ | ⟨_, _, _⟩ | ⟨_, _, _⟩ <;>
    omega

/-- A sum over 128 columns of which four are in use. -/
theorem first_four (f : (l : Fin 128) → l.val < 4 → EReal) :
    (∑ l : Fin 128, if h : l.val < 4 then f l h else 0) = ∑ k : Fin 4, f ⟨k.val, by omega⟩ k.isLt := by
  refine (Fin.sum_univ_add (a := 4) (b := 124) fun l : Fin (4 + 124) => if h : l.val < 4 then f l h else 0).trans ?_
  have hz : (∑ k : Fin 124, if h : (Fin.natAdd 4 k : Fin (4 + 124)).val < 4 then f (Fin.natAdd 4 k) h else 0) = 0 :=
    Finset.sum_eq_zero fun k _ => dif_neg (by rw [Fin.val_natAdd]; omega)
  rw [hz, add_zero]
  exact Finset.sum_congr rfl fun k _ => dif_pos k.isLt

/-- A sum over the model's columns, by the columns of the two arrays that the step stores. -/
theorem column_sum (f : Fin 7684 → EReal) :
    ∑ c, f c = (∑ l : Fin 128, if h : l.val < 4 then f (forgetCol l h) else 0) + ∑ l : Fin 7680, f (col l) := by
  rw [first_four (fun l h => f (forgetCol l h)), ← columns.sum_comp f, Fintype.sum_sum_type]
  rfl

end Cert.InputGrad

end
-- ==== Proof.InputGrad.Results.lean ====
/- What the call of the input's gradient leaves in its two arrays. -/
module

public import proofs.«01_k».proof.Proof.Gen.Kernel5Ideal.Frame
public import proofs.«01_k».proof.Proof.InputGrad.Spec
public import proofs.«01_k».proof.Proof.WeightGrad.Reference
public import Idealize.ShloMosaic.Lib.Pipeline.ValueKit
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

namespace Cert.InputGrad

open Cert.Projection Cert.Kernel5Ideal Cert.Kernel5Ideal.Gen

variable (m : (ℓ : Loc nD τ sig) → Buf (Elt Ideal) ℓ)

/-- The residual stream, as the initial memory holds it on a device. -/
def inX (c : Dev nD) : FVec Ideal Rows .f32 := m ((c.tc : Thread nD τ).loc main_arg0)
/-- The gradient that comes in past the layer. -/
def inU (c : Dev nD) : FVec Ideal Rows .f32 := m ((c.tc : Thread nD τ).loc main_arg1)
/-- The norm's gain. -/
def inG (c : Dev nD) : FVec Ideal Gain .f32 := m ((c.tc : Thread nD τ).loc main_arg2)
/-- The projection's weight. -/
def inW (c : Dev nD) : FVec Ideal Weight .bf16 := m ((c.tc : Thread nD τ).loc main_arg3)
/-- The projection's gradient. -/
def inP (c : Dev nD) : FVec Ideal Proj .bf16 := m ((c.tc : Thread nD τ).loc main_arg4)
/-- The forget gate's. -/
def inQ (c : Dev nD) : FVec Ideal Forget .bf16 := m ((c.tc : Thread nD τ).loc main_arg5)

/-- Every window's block index at every grid point. -/
theorem idx_val : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0]
    ∧ win0_6.index t = ![0, 0]
    ∧ win0_7.index t = ![t.val, 0]
    ∧ win0_8.index t = ![0, 0] :=
  (by decide +kernel : ∀ t : Fin grid0.N, _)

/-- The row of the arrays that a row of a point's block is. -/
def row (t : Fin cfg0.N) (r : Fin 256) : Fin 4096 := ⟨t.val * 256 + r.val, by have h : t.val < 16 := t.isLt; have h3 := r.isLt; omega⟩

set_option maxHeartbeats 4000000 in
/-- The weight as the call reads it: its columns regrouped. -/
theorem host_w (c : Dev nD) (d : Fin 1024) (l : Fin 7680) :
    V m c main_v14 (ix2 d l : S1024x7680.Idx) = inW m c (ix2 d (col l)) := by
  simp only [V, hostOps0, hostOps0_1, List.flatten_cons, List.flatten_nil, List.append_nil, List.cons_append, List.nil_append]
  after_reads_simp
  dsimp only [Matrix.cons_val]
  after_reads_simp
  pointwise [inW]
  have hc := colVal_spec l.val
  have hl := l.isLt
  repeat' (refine WeightGrad.dite_to (fun h => ?_) (fun h => ?_))
  all_goals exact congrArg (fun k => inW m c (ix2 d k)) (col_eq l _ (by dsimp only; omega))

/-- The forget gate's weight as the call reads it: padded with zeros. -/
theorem host_wbf (c : Dev nD) (d : Fin 1024) (l : Fin 128) :
    V m c main_v17 (ix2 d l : S1024x128.Idx) = if h : l.val < 4 then inW m c (ix2 d (forgetCol l h)) else 0 := by
  simp only [V, hostOps0, hostOps0_1, List.flatten_cons, List.flatten_nil, List.append_nil, List.cons_append, List.nil_append]
  after_reads_simp
  simp only [StableHlo.TRef.toBuf, StableHlo.TRef.ofBuf, cast_eq]
  by_cases h : l.val < 4 <;> pointwise [inW, forgetCol, h, sitofp_zero]

theorem host_g (c : Dev nD) (z : Fin 1) (d : Fin 1024) :
    V m c main_v15 (ix2 z d : S1x1024.Idx) = inG m c (ix1 d) := by
  simp only [V, hostOps0, hostOps0_1, List.flatten_cons, List.flatten_nil, List.append_nil, List.cons_append, List.nil_append]
  after_reads_simp
  pointwise [inG]

theorem blk0 (c : Dev nD) (t : Fin cfg0.N) (r : Fin 256) (l : Fin 7680) :
    iblk m c 0 t (ix2 r l : S256x7680.Idx) = inP m c (ix2 (row t r) l) := by
  blk_simp [iblk]
  blk_ext [idx_val t, row]

theorem blk1 (c : Dev nD) (t : Fin cfg0.N) (d : Fin 1024) (l : Fin 7680) :
    iblk m c 1 t (ix2 d l : S1024x7680.Idx) = inW m c (ix2 d (col l)) := by
  rw [← host_w]
  blk_simp [iblk]
  blk_ext [idx_val t, row]

theorem blk2 (c : Dev nD) (t : Fin cfg0.N) (r : Fin 256) (d : Fin 1024) :
    iblk m c 2 t (ix2 r d : S256x1024.Idx) = inX m c (ix2 (row t r) d) := by
  blk_simp [iblk]
  blk_ext [idx_val t, row]

theorem blk3 (c : Dev nD) (t : Fin cfg0.N) (r : Fin 256) (d : Fin 1024) :
    iblk m c 3 t (ix2 r d : S256x1024.Idx) = inU m c (ix2 (row t r) d) := by
  blk_simp [iblk]
  blk_ext [idx_val t, row]

theorem blk4 (c : Dev nD) (t : Fin cfg0.N) (z : Fin 1) (d : Fin 1024) :
    iblk m c 4 t (ix2 z d : S1x1024.Idx) = inG m c (ix1 d) := by
  rw [← host_g m c z d]
  blk_simp [iblk]
  blk_ext [idx_val t, row]

theorem blk5 (c : Dev nD) (t : Fin cfg0.N) (r : Fin 256) (l : Fin 128) :
    iblk m c 5 t (ix2 r l : S256x128.Idx) = inQ m c (ix2 (row t r) l) := by
  blk_simp [iblk]
  blk_ext [idx_val t, row]

theorem blk6 (c : Dev nD) (t : Fin cfg0.N) (d : Fin 1024) (l : Fin 128) :
    iblk m c 6 t (ix2 d l : S1024x128.Idx) = if h : l.val < 4 then inW m c (ix2 d (forgetCol l h)) else 0 := by
  rw [← host_wbf]
  blk_simp [iblk]
  blk_ext [idx_val t, row]

/-- Where a point's block of the input's gradient lies. -/
theorem emb7 (t : Fin cfg0.N) (y : S256x1024.Idx) :
    ((cfg0.win 7).blk t).view.emb y = (ix2 (row t (y 0)) (y 1) : S4096x1024.Idx) := by
  blk_ext [idx_val t, row]

/-- The normed rows' gradient, as a point gathers it. -/
theorem gather (c : Dev nD) (t : Fin cfg0.N) (r : Fin 256) (d : Fin 1024) :
    k0_pay3 (F := Ideal) (k0_pay1 (F := Ideal) (iblk m c 5 t) (iblk m c 6 t)) (iblk m c 0 t) (iblk m c 1 t) (ix2 r d : S256x1024.Idx)
      = back (inW m c) (inP m c) (inQ m c) (row t r) d := by
  pointwise [k0_pay3, k0_pay1, blk0, blk1, blk5, blk6, back]

/-- The rows' scale, as a point computes it. -/
theorem scaled (c : Dev nD) (t : Fin cfg0.N) (r : Fin 256) (z : Fin 1) :
    k0_pay4 (F := Ideal) (iblk m c 2 t) (ix2 r z : S256x1.Idx) = scale (inX m c) (row t r) := by
  pointwise [k0_pay4, blk2, scale]

/-- The scaled rows. -/
theorem rows (c : Dev nD) (t : Fin cfg0.N) (r : Fin 256) (d : Fin 1024) :
    k0_pay5 (F := Ideal) (iblk m c 2 t) (ix2 r d : S256x1024.Idx) = inX m c (ix2 (row t r) d) * scale (inX m c) (row t r) := by
  pointwise [k0_pay5, scaled, blk2]

/-- A point's block of the input's gradient. -/
theorem block_entry (c : Dev nD) (t : Fin cfg0.N) (r : Fin 256) (d : Fin 1024) :
    k0_pay6 (F := Ideal) (k0_pay3 (F := Ideal) (k0_pay1 (F := Ideal) (iblk m c 5 t) (iblk m c 6 t)) (iblk m c 0 t) (iblk m c 1 t))
        (iblk m c 2 t) (iblk m c 4 t) (iblk m c 3 t) (ix2 r d : S256x1024.Idx)
      = inputEntry (inX m c) (inU m c) (inG m c) (inW m c) (inP m c) (inQ m c) (row t r) d := by
  pointwise [k0_pay6, gather, scaled, rows, blk3, blk4, inputEntry]

/-- What one point adds to a partial row of the gain's gradient. -/
def partGain (c : Dev nD) (t : Fin cfg0.N) (j : S8x1024.Idx) : EReal :=
  ∑ k : Fin 32, gainTerm (inX m c) (inW m c) (inP m c) (inQ m c) (row t ⟨k.val * 8 + (j 0).val, by have h : (j 0).val < 8 := (j 0).isLt; omega⟩) (j 1)

/-- The zero fill of the gain's gradient. -/
theorem zero_gain (j : S8x1024.Idx) : k0_pay2 (F := Ideal) j = 0 := by
  pointwise! [k0_pay2]

/-- One point adds its rows' products. -/
theorem step_gain (c : Dev nD) (t : Fin cfg0.N) (a : FVec Ideal S8x1024 .f32) (j : S8x1024.Idx) :
    k0_pay7 (F := Ideal) (k0_pay3 (F := Ideal) (k0_pay1 (F := Ideal) (iblk m c 5 t) (iblk m c 6 t)) (iblk m c 0 t) (iblk m c 1 t))
        (iblk m c 2 t) a j
      = a j + partGain m c t j := by
  idx_vars j
  pointwise [k0_pay7, gather, rows, partGain, gainTerm]

set_option maxHeartbeats 1600000 in
/-- The first result is the input's gradient. -/
theorem final_7 (c : Dev nD) : (dats m 0 c).arrAt 7 (cfgs 0).N
    = inputGrad (inX m c) (inU m c) (inG m c) (inW m c) (inP m c) (inQ m c) := by
  refine (dats m 0 c).arrAt_eq_of_covers 7 _ (by decide +kernel) fun t hf y => ?_
  rw [emb7]
  blk_simp; rw [after0_7]
  have ey : (y : S256x1024.Idx) = (ix2 (y 0) (y 1) : S256x1024.Idx) := by funext a; fin_cases a <;> rfl
  by_cases h : t.val % 16 = 0
  · rw [outsAt0_A m c t h]; frame_out
    exact (congrArg _ ey).trans (block_entry m c t (y 0) (y 1))
  · rw [outsAt0_B m c t h]; frame_out
    exact (congrArg _ ey).trans (block_entry m c t (y 0) (y 1))

/-- The eight partial rows of the gain's gradient. -/
def gainRows (c : Dev nD) : FVec Ideal ⟨2, ![8, 1024]⟩ .f32 := fun j => ∑ t : Fin 16, partGain m c t j

/-- The second array holds them. -/
theorem final_8 (c : Dev nD) : (dats m 0 c).arrAt 8 (cfgs 0).N = gainRows m c := by
  refine (dats m 0 c).arrAt_eq_of_after_last 8 t0_15 (by decide +kernel) _ fun j => ?_
  blk_simp
  rw [after0_8, Pipeline.eq_sum_fin_of_reset_step_apply_last (fun n h => (outsAt0 m c n h).2) 16 (fun _ => 0)
    (fun t j => partGain m c t j)
    (fun t h j => by rw [outsAt0_A m c t h]; frame_out; rw [step_gain, zero_gain])
    (fun t h j => by rw [outsAt0_B m c t h]; frame_out; rw [step_gain])
    (le_of_eq N_0) t0_15 rfl j, zero_add]
  rfl

/-- Their sum is the gain's gradient. -/
theorem gain_sum (c : Dev nD) (d : Fin 1024) :
    ∑ i : Fin 8, gainRows m c (ix2 i d) = gainGrad (inX m c) (inW m c) (inP m c) (inQ m c) (ix1 d) := by
  unfold gainRows partGain gainGrad
  rw [Finset.sum_comm]
  refine Eq.trans (Finset.sum_congr rfl fun t _ => Finset.sum_comm) ?_
  have hb : ∀ t : Fin 16, ∑ k : Fin 32, ∑ i : Fin 8, gainTerm (inX m c) (inW m c) (inP m c) (inQ m c) (row t ⟨k.val * 8 + i.val, by omega⟩) d
      = ∑ r : Fin 256, gainTerm (inX m c) (inW m c) (inP m c) (inQ m c) (row t r) d := fun t =>
    Fin.sum_mul_add_congr fun s k hl => rfl
  refine (Finset.sum_congr rfl fun t _ => hb t).trans ?_
  exact Fin.sum_mul_add_congr fun s k hl => rfl

end Cert.InputGrad

end
-- ==== Proof.InputGrad.Identity.lean ====
/- The gradient of a root-mean-square norm over the extended reals: as the chain rule writes it, and in closed form. -/
module

public import Idealize.ShloMosaic.Lib.Pointwise
public import Idealize.ShloMosaic.Lib.IdealHost

@[expose] public section

noncomputable section

open Idealize.ShloMosaic
open scoped BigOperators

namespace Cert.InputGrad

/-- The constant 1024. -/
theorem width_bits : Ideal.ofBits .f32 0x44800000#32 = ((1024 : ℝ) : EReal) := by
  simp [Ideal.ofBits, Ideal.ieee, -EReal.coe_mul]; norm_num

/-- The constant -1/2. -/
theorem neg_half_bits : Ideal.ofBits .f32 0xBF000000#32 = ((-(1 / 2) : ℝ) : EReal) := by
  simp [Ideal.ofBits, Ideal.ieee, -EReal.coe_mul]; norm_num

/-- The constant added to the mean square is a positive real. -/
theorem eps_bits : ∃ e : ℝ, 0 < e ∧ Ideal.ofBits .f32 0x358637BD#32 = (e : EReal) := by
  refine ⟨_, ?_, by simp [Ideal.ofBits, Ideal.ieee, -EReal.coe_mul]; rfl⟩
  norm_num

/-- A real factor that is not negative goes into a sum. -/
theorem mul_sum_real {ι : Type} (r : ℝ) (hr : 0 ≤ r) (K : Finset ι) (f : ι → EReal) : (r : EReal) * ∑ k ∈ K, f k = ∑ k ∈ K, (r : EReal) * f k := by
  classical
  induction K using Finset.induction_on with
  | empty => simp
  | insert a K ha ih =>
    rw [Finset.sum_insert ha, Finset.sum_insert ha,
      EReal.left_distrib_of_nonneg_of_ne_top (EReal.coe_nonneg.mpr hr) (EReal.coe_ne_top r), ih]

/-- A sum of reals is real. -/
theorem coe_sum_real {ι : Type} (K : Finset ι) (f : ι → ℝ) : ((∑ k ∈ K, f k : ℝ) : EReal) = ∑ k ∈ K, (f k : EReal) := by
  classical
  induction K using Finset.induction_on with
  | empty => simp
  | insert a K ha ih => rw [Finset.sum_insert ha, Finset.sum_insert ha, EReal.coe_add, ih]

/-- A square is not negative. -/
theorem sq_nonneg' (x : EReal) : 0 ≤ x * x := by
  induction x with
  | bot => simp
  | top => simp
  | coe a => rw [← EReal.coe_mul]; exact EReal.coe_nonneg.mpr (mul_self_nonneg a)

/-- Where a coordinate is infinite, so is the sum of the squares. -/
theorem sum_sq_top {n : ℕ} (x : Fin n → EReal) (k : Fin n) (hk : x k = ⊤ ∨ x k = ⊥) : ∑ e, x e * x e = ⊤ := by
  rw [← Finset.add_sum_erase _ _ (Finset.mem_univ k)]
  have h : x k * x k = ⊤ := by rcases hk with h | h <;> rw [h] <;> rfl
  rw [h]
  exact EReal.top_add_of_ne_bot (ne_of_gt (lt_of_lt_of_le EReal.bot_lt_zero (Finset.sum_nonneg fun e _ => sq_nonneg' (x e))))

/-- The mean square and the small constant. -/
def meanSq (x : Fin 1024 → EReal) : EReal :=
  Ideal.div (∑ e, x e * x e) (Ideal.ofBits .f32 0x44800000#32) + Ideal.ofBits .f32 0x358637BD#32

/-- What the chain rule sends back through the mean of the squares to one coordinate, up to the coordinate. -/
def backMean (x y : Fin 1024 → EReal) : EReal :=
  Ideal.div ((∑ e, x e * y e) * (Ideal.ofBits .f32 0xBF000000#32 * Ideal.div (Ideal.rsqrt (meanSq x)) (meanSq x)))
    (Ideal.ofBits .f32 0x44800000#32)

/-- Where no coordinate is infinite, the mean square is a positive real. -/
theorem meanSq_real (a : Fin 1024 → ℝ) : ∃ v : ℝ, 0 < v ∧ meanSq (fun e => (a e : EReal)) = (v : EReal) := by
  obtain ⟨e, he, hb⟩ := eps_bits
  refine ⟨(∑ k, a k * a k) * (1 / 1024) + e, by have := Finset.sum_nonneg (s := Finset.univ) fun k _ => mul_self_nonneg (a k); positivity, ?_⟩
  unfold meanSq
  rw [hb, width_bits, Ideal.div_coe (by norm_num), EReal.coe_add, EReal.coe_mul, coe_sum_real]
  simp only [EReal.coe_mul]

/-- Twice a value, as a product. -/
theorem add_self (z : EReal) : z + z = ((2 : ℝ) : EReal) * z := by
  rw [← two_nsmul, EReal.nsmul_eq_mul]; rfl

/-- The two forms agree: where a coordinate is infinite both are zero, and elsewhere the scale is a positive real. -/
theorem norm_back (x y : Fin 1024 → EReal) (d : Fin 1024) :
    y d * Ideal.rsqrt (meanSq x) + (x d * backMean x y + backMean x y * x d)
      = Ideal.rsqrt (meanSq x) * (y d - x d * Ideal.rsqrt (meanSq x)
        * Ideal.div (∑ e, x e * Ideal.rsqrt (meanSq x) * y e) (Ideal.ofBits .f32 0x44800000#32)) := by
  by_cases hx : ∃ k, x k = ⊤ ∨ x k = ⊥
  · obtain ⟨k, hk⟩ := hx
    obtain ⟨e, he, hb⟩ := eps_bits
    have hv : meanSq x = ⊤ := by
      unfold meanSq
      rw [sum_sq_top x k hk, hb, width_bits, Ideal.div_coe (by norm_num), EReal.top_mul_coe_of_pos (by norm_num)]
      exact EReal.top_add_coe e
    have hm : backMean x y = 0 := by
      unfold backMean
      rw [hv, Ideal.rsqrt_top, Ideal.zero_div (by simp), mul_zero, mul_zero, width_bits, Ideal.div_coe (by norm_num), zero_mul]
    rw [hm, hv, Ideal.rsqrt_top]; simp
  · have hr : ∀ k, ∃ a : ℝ, x k = (a : EReal) := fun k => by
      rcases h : x k with _ | _ | a
      · exact absurd ⟨k, Or.inr h⟩ hx
      · exact absurd ⟨k, Or.inl h⟩ hx
      · exact ⟨_, rfl⟩
    choose a ha using hr
    obtain rfl : x = fun e => (a e : EReal) := funext ha
    obtain ⟨v, hv, ev⟩ := meanSq_real a
    have er : Ideal.rsqrt (v : EReal) = (((Real.sqrt v)⁻¹ : ℝ) : EReal) := by
      rw [Ideal.rsqrt_coe, if_neg (not_lt.mpr hv.le), if_neg hv.ne']
    unfold backMean
    rw [ev, er, width_bits, neg_half_bits]
    have hR : 0 < (Real.sqrt v)⁻¹ := inv_pos.mpr (Real.sqrt_pos.mpr hv)
    have hR2 : (Real.sqrt v)⁻¹ * (Real.sqrt v)⁻¹ = 1 / v := by rw [← mul_inv, Real.mul_self_sqrt hv.le, one_div]
    generalize (Real.sqrt v)⁻¹ = R at hR hR2 ⊢
    have hs : ∑ e, (a e : EReal) * (R : EReal) * y e = (R : EReal) * ∑ e, (a e : EReal) * y e := by
      rw [mul_sum_real R hR.le]
      exact Finset.sum_congr rfl fun e _ => by rw [mul_comm (a e : EReal) (R : EReal), mul_assoc]
    rw [hs]
    generalize ∑ e, (a e : EReal) * y e = T
    simp only [Ideal.div_coe (show (1024 : ℝ) ≠ 0 by norm_num), Ideal.div_coe hv.ne']
    rw [sub_eq_add_neg, EReal.left_distrib_of_nonneg_of_ne_top (EReal.coe_nonneg.mpr hR.le) (EReal.coe_ne_top R), mul_comm (y d)]
    congr 1
    have h1 : (a d : EReal) * (T * (((-(1 / 2) : ℝ) : EReal) * ((R : EReal) * ((1 / v : ℝ) : EReal))) * ((1 / 1024 : ℝ) : EReal))
        = T * ((a d * (-(1 / 2) * (R * (1 / v))) * (1 / 1024) : ℝ) : EReal) := by
      simp only [EReal.coe_mul]; ac_rfl
    rw [mul_comm _ (a d : EReal), h1, add_self, mul_neg]
    have h2 : (R : EReal) * ((a d : EReal) * (R : EReal) * ((R : EReal) * T * ((1 / 1024 : ℝ) : EReal)))
        = T * ((a d * (R * (R * R)) * (1 / 1024) : ℝ) : EReal) := by
      simp only [EReal.coe_mul]; ac_rfl
    rw [h2, ← mul_neg, ← EReal.coe_neg, mul_left_comm, ← EReal.coe_mul]
    congr 2
    rw [hR2]; ring

end Cert.InputGrad

end
-- ==== Proof.InputGrad.Reference.lean ====
/- The reference of the input's gradient, read at an index. -/
module

public import proofs.«01_k».proof.Proof.Gen.Reference5Ideal.Read
public import proofs.«01_k».proof.Proof.InputGrad.Spec
public import proofs.«01_k».proof.Proof.InputGrad.Identity
public import proofs.«01_k».proof.Proof.WeightGrad.Reference

@[expose] public section

set_option maxRecDepth 16384

noncomputable section

open Idealize.ShloMosaic
open scoped BigOperators

namespace Cert.InputGrad

open Cert.Projection Cert.Reference5Ideal Cert.Reference5Ideal.Read

variable (x u : FVec Ideal Rows .f32) (g : FVec Ideal Gain .f32) (w : FVec Ideal Weight .bf16)
variable (p : FVec Ideal Proj .bf16) (q : FVec Ideal Forget .bf16)

/-- The reference's mean square. -/
theorem ref_mean (s : Fin 4096) (z : Fin 1) :
    val_main_v6 (F := Ideal) x (ix2 s z : S4096x1.Idx) = meanSq fun e => x (ix2 s e) := by
  pointwise [val_main_v6, val_main_v5, val_main_v4, val_main_v3, val_main_v2, val_main_v1, val_main_v0, val_main_cst,
    val_main_cst_0, val_main_cst_1, meanSq]

set_option maxHeartbeats 1600000 in
/-- The incoming gradient in the model's order of columns, at a column of the stored ones. -/
theorem ref_part (s : Fin 4096) (l : Fin 7680) :
    val_main_v30 (F := Ideal) p q (ix2 s (col l) : S4096x7684.Idx) = p (ix2 s l) := by
  pointwise [val_main_v30, val_main_v29, val_main_v28, val_main_v27, val_main_v26, val_main_v25, val_main_v24, val_main_v23,
    val_main_v22, val_main_v21, val_main_v20, val_main_v19, val_main_v18]
  have hc := colVal_spec l.val
  have hv : (col l).val = colVal l.val := rfl
  have hl := l.isLt
  repeat' (refine WeightGrad.dite_to (fun h => ?_) (fun h => ?_))
  all_goals
    first
    | exact congrArg (fun k => p (ix2 s k)) (Fin.ext (by dsimp only; omega))
    | (exfalso; omega)

set_option maxHeartbeats 1600000 in
/-- The same at a column of the forget gate's. -/
theorem ref_part_forget (s : Fin 4096) (l : Fin 128) (h4 : l.val < 4) :
    val_main_v30 (F := Ideal) p q (ix2 s (forgetCol l h4) : S4096x7684.Idx) = q (ix2 s l) := by
  pointwise [val_main_v30, val_main_v29, val_main_v28, val_main_v27, val_main_v26, val_main_v25, val_main_v24, val_main_v23,
    val_main_v22, val_main_v21, val_main_v20, val_main_v19, val_main_v18]
  have hv : (forgetCol l h4).val = 1536 + l.val := rfl
  repeat' (refine WeightGrad.dite_to (fun h => ?_) (fun h => ?_))
  all_goals
    first
    | exact congrArg (fun k => q (ix2 s k)) (Fin.ext (by dsimp only; omega))
    | (exfalso; omega)

/-- The reference's gradient of the normed rows. -/
theorem ref_back (s : Fin 4096) (d : Fin 1024) :
    val_main_v31 (F := Ideal) w p q (ix2 s d : S4096x1024.Idx) = back w p q s d := by
  have h : val_main_v31 (F := Ideal) w p q (ix2 s d : S4096x1024.Idx)
      = ∑ c : Fin 7684, val_main_v30 (F := Ideal) p q (ix2 s c : S4096x7684.Idx) * w (ix2 d c) := by
    pointwise [val_main_v31, val_main_v16]
  rw [h, column_sum]
  unfold back
  refine congrArg₂ (· + ·) ?_ ?_
  · refine Finset.sum_congr rfl fun l _ => ?_
    by_cases h4 : l.val < 4
    · rw [dif_pos h4, dif_pos h4, ref_part_forget]
    · rw [dif_neg h4, dif_neg h4, mul_zero]
  · exact Finset.sum_congr rfl fun l _ => by rw [ref_part]

/-- The reference's scaled rows. -/
theorem ref_scaled (s : Fin 4096) (d : Fin 1024) :
    val_main_v12 (F := Ideal) x (ix2 s d : S4096x1024.Idx) = x (ix2 s d) * scale x s := by
  pointwise [val_main_v12, val_main_v11, val_main_v7, ref_mean, meanSq, scale]

/-- The gradient of the normed rows, times the gain. -/
theorem ref_gained (s : Fin 4096) (d : Fin 1024) :
    val_main_v36 (F := Ideal) g w p q (ix2 s d : S4096x1024.Idx) = back w p q s d * g (ix1 d) := by
  pointwise [val_main_v36, val_main_v35, val_main_v13, ref_back]

/-- What the reference sends back through the mean square. -/
theorem ref_backMean (s : Fin 4096) (d : Fin 1024) :
    val_main_v48 (F := Ideal) x g w p q (ix2 s d : S4096x1024.Idx)
      = backMean (fun e => x (ix2 s e)) (fun e => back w p q s e * g (ix1 e)) := by
  pointwise [val_main_v48, val_main_v47, val_main_v46, val_main_v45, val_main_v44, val_main_v40, val_main_v39, val_main_v38,
    val_main_v10, val_main_v9, val_main_v8, val_main_v7, val_main_cst_2, val_main_cst_5, val_main_cst_6, val_main_cst_7,
    ref_gained, ref_mean, backMean]
  exact Fin.sum_univ_one _

/-- The reference's first result. -/
theorem ref_v52 : val_main_v52 (F := Ideal) x u g w p q = inputGrad x u g w p q := by
  funext i; idx_vars i
  pointwise [val_main_v52, val_main_v51, val_main_v50, val_main_v49, val_main_v43, val_main_v42, val_main_v41, val_main_v7,
    ref_backMean, ref_gained, ref_mean, inputGrad, inputEntry]
  rw [add_assoc, add_assoc]
  exact congrArg _ (norm_back (fun e => x (ix2 i0 e)) (fun e => back w p q i0 e * g (ix1 e)) i1)

/-- The reference's second result. -/
theorem ref_v37 : val_main_v37 (F := Ideal) x w p q = gainGrad x w p q := by
  funext i; idx_vars i
  pointwise [val_main_v37, val_main_v34, val_main_v33, val_main_v32, val_main_cst_3, val_main_cst_4, ref_scaled, ref_back,
    gainGrad, gainTerm]
  exact (Fin.sum_univ_one _).trans (Finset.sum_congr rfl fun k _ => mul_comm _ _)

end Cert.InputGrad
end
-- ==== Proof.InputGrad.Claim.lean ====
/- The claims about the gradient of the input projection's input, put together. -/
module

public import proofs.«01_k».proof.Defs
public import proofs.«01_k».proof.Proof.InputGrad.Results
public import proofs.«01_k».proof.Proof.InputGrad.Reference
public import proofs.«01_k».proof.Proof.Gen.Reference5Ideal.Run
public import Idealize.ShloMosaic.Lib.Quiescent
public import Idealize.ShloMosaic.Lib.Claim

@[expose] public section

set_option maxRecDepth 16384

noncomputable section

namespace Cert.InputGrad

open Idealize.ShloMosaic Idealize.ShloMosaic.TcCoe Idealize.SL.Sem
open Cert.Projection Cert.Kernel5Ideal Cert.Kernel5Ideal.Gen
open scoped BigOperators

/-- The line after the call sums the eight partial rows. -/
theorem tail_gain (m : (ℓ : Loc nD τ sig) → Buf (Elt Ideal) ℓ) (c : Dev nD) :
    Pipeline.afterTail₀ cfgs (dats m) 0 (V0 m) [hostOps1] c main_v19
      = gainGrad (inX m c) (inW m c) (inP m c) (inQ m c) := by
  unfold Pipeline.afterTail₀
  simp only [hostOps1, List.flatten_cons, List.flatten_nil, List.append_nil, List.cons_append, List.nil_append]
  after_reads_simp
  have e : Pipeline.withArrays (cfgs 0).spec c (V0 m c) (fun w => (dats m 0 c).arrAt w (cfgs 0).N) (Proc.tc.devRef main_v18_1)
      = gainRows m c :=
    (Pipeline.withArrays_arr (cfgs 0).spec launch0.win.arr_inj c (V0 m c) _ 8).trans (final_8 m c)
  rw [e]
  funext i; idx_vars i
  rw [← gain_sum m c i0]
  pointwise []

/-- The reference leaves its arguments as they were. -/
theorem frame_reference : Cert.quiescent_Reference5Ideal := fun m ρ _ =>
  (θ_run Cert.Reference5Ideal.defs _ _).mono
    (fun r h => ⟨fun c => (h c).2.2, sem_eq_zero_of_no_sems (by decide) r.2⟩)
    (Cert.Reference5Ideal.Value.run (F := Ideal) m ρ)

/-- Both programs, from memories that agree on the arguments, end with the same results. -/
theorem algebraic : Cert.algebraic_Kernel5Ideal_Reference5Ideal := by
  intro m g m' g' _ h
  refine ⟨fun c => inputGrad (inX m c) (inU m c) (inG m c) (inW m c) (inP m c) (inQ m c),
    fun c => gainGrad (inX m c) (inW m c) (inP m c) (inQ m c), ?_, ?_⟩
  · refine (θ_run Cert.Kernel5Ideal.defs _ _).mono (fun r k c => ?_) (θ_run_and (run_main m g) (unchanged m g))
    exact ⟨((k.1 c).1 7).trans (final_7 m c),
      ((k.1 c).2 main_v19 (Pipeline.mem_restRefs_of main_v19 (by decide) (by decide))).trans (tail_gain m c), k.2 c⟩
  · refine (θ_run Cert.Reference5Ideal.defs _ _).mono (fun r k c => ?_) (Cert.Reference5Ideal.Value.run (F := Ideal) m' g')
    obtain ⟨h0, h1, args⟩ := k c
    obtain ⟨e0, e1, e2, e3, e4, e5⟩ := h c
    refine ⟨h0.trans ((Cert.Reference5Ideal.Read.val_main_v52_eq ..).trans ((ref_v52 ..).trans ?_)),
      h1.trans ((Cert.Reference5Ideal.Read.val_main_v37_eq ..).trans ((ref_v37 ..).trans ?_)), args⟩
    · unfold inX inU inG inW inP inQ; rw [e0, e1, e2, e3, e4, e5]
    · unfold inX inW inP inQ; rw [e0, e3, e4, e5]

end Cert.InputGrad

end
-- ==== Proof.LossHead.Spec.lean ====
/- The loss, its gradient in the last layer's output and in the last norm's gain, written as plain formulas over the extended reals. -/
module

public import proofs.«01_k».proof.Proof.Projection.Spec
public import proofs.«01_k».proof.Proof.InputGrad.Identity

@[expose] public section

noncomputable section

open Idealize.ShloMosaic
open scoped BigOperators

namespace Cert.LossHead

open Cert.Projection Cert.InputGrad

/-- How far one normed entry is from its target. -/
def miss (x t : FVec Ideal Rows .f32) (g : FVec Ideal Gain .f32) (s : Fin 4096) (d : Fin 1024) : EReal :=
  x (ix2 s d) * scale x s * g (ix1 d) - t (ix2 s d)

/-- One token's mean square miss. -/
def rowLoss (x t : FVec Ideal Rows .f32) (g : FVec Ideal Gain .f32) (s : Fin 4096) : EReal :=
  Ideal.div (∑ e : Fin 1024, miss x t g s e * miss x t g s e) (Ideal.ofBits .f32 0x44800000#32)

/-- The loss: half the sum of the tokens' mean squares. -/
def loss (x t : FVec Ideal Rows .f32) (g : FVec Ideal Gain .f32) : FVec Ideal ⟨0, ![]⟩ .f32 :=
  fun _ => Ideal.ofBits .f32 0x3F000000#32 * ∑ s : Fin 4096, rowLoss x t g s

/-- The loss's slope in one normed entry. -/
def slope (x t : FVec Ideal Rows .f32) (g : FVec Ideal Gain .f32) (s : Fin 4096) (d : Fin 1024) : EReal :=
  miss x t g s d * Ideal.ofBits .f32 0x3A800000#32

/-- One entry of the output's gradient: the slope back through the norm. -/
def outputEntry (x t : FVec Ideal Rows .f32) (g : FVec Ideal Gain .f32) (s : Fin 4096) (d : Fin 1024) : EReal :=
  scale x s * (slope x t g s d * g (ix1 d) - x (ix2 s d) * scale x s
    * Ideal.div (∑ e : Fin 1024, x (ix2 s e) * scale x s * (slope x t g s e * g (ix1 e))) (Ideal.ofBits .f32 0x44800000#32))

/-- The output's gradient, as an array. -/
def outputGrad (x t : FVec Ideal Rows .f32) (g : FVec Ideal Gain .f32) : FVec Ideal Rows .f32 :=
  fun i => outputEntry x t g (i 0) (i 1)

/-- One token's part of one entry of the gain's gradient. -/
def gainPart (x t : FVec Ideal Rows .f32) (g : FVec Ideal Gain .f32) (s : Fin 4096) (d : Fin 1024) : EReal :=
  slope x t g s d * (x (ix2 s d) * scale x s)

/-- The gain's gradient, as an array. -/
def finalGain (x t : FVec Ideal Rows .f32) (g : FVec Ideal Gain .f32) : FVec Ideal Gain .f32 :=
  fun i => ∑ s : Fin 4096, gainPart x t g s (i 0)

/-- The constant 1/2. -/
theorem half_bits : Ideal.ofBits .f32 0x3F000000#32 = ((1 / 2 : ℝ) : EReal) := by
  simp [Ideal.ofBits, Ideal.ieee, -EReal.coe_mul]; norm_num

/-- The constant 2. -/
theorem two_bits : Ideal.ofBits .f32 0x40000000#32 = ((2 : ℝ) : EReal) := by
  simp [Ideal.ofBits, Ideal.ieee, -EReal.coe_mul]; norm_num

/-- The constant 1/1024. -/
theorem inv_width_bits : Ideal.ofBits .f32 0x3A800000#32 = ((1 / 1024 : ℝ) : EReal) := by
  simp [Ideal.ofBits, Ideal.ieee, -EReal.coe_mul]; norm_num

/-- Half of the square's derivative, spread over a row, is the value over the row's length. -/
theorem half_two (z : EReal) :
    Ideal.div (Ideal.ofBits .f32 0x3F000000#32) (Ideal.ofBits .f32 0x44800000#32)
        * (Ideal.ofBits .f32 0x40000000#32 * z)
      = z * Ideal.ofBits .f32 0x3A800000#32 := by
  rw [half_bits, two_bits, inv_width_bits, width_bits, Ideal.div_coe (by norm_num), ← mul_assoc, mul_comm z]
  simp only [← EReal.coe_mul]
  norm_num

end Cert.LossHead

end
-- ==== Proof.LossHead.Results.lean ====
/- What the call of the loss leaves in its three arrays. -/
module

public import proofs.«01_k».proof.Proof.Gen.Kernel6Ideal.Frame
public import proofs.«01_k».proof.Proof.LossHead.Spec
public import Idealize.ShloMosaic.Lib.Pipeline.ValueKit
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

namespace Cert.LossHead

open Cert.Projection Cert.InputGrad Cert.Kernel6Ideal Cert.Kernel6Ideal.Gen

variable (m : (ℓ : Loc nD τ sig) → Buf (Elt Ideal) ℓ)

/-- The last layer's output, as the initial memory holds it on a device. -/
def inX (c : Dev nD) : FVec Ideal Rows .f32 := m ((c.tc : Thread nD τ).loc main_arg0)
/-- The targets. -/
def inT (c : Dev nD) : FVec Ideal Rows .f32 := m ((c.tc : Thread nD τ).loc main_arg1)
/-- The norm's gain. -/
def inG (c : Dev nD) : FVec Ideal Gain .f32 := m ((c.tc : Thread nD τ).loc main_arg2)

/-- Every window's block index at every grid point. -/
theorem idx_val : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![0, 0] :=
  (by decide +kernel : ∀ t : Fin grid0.N, _)

/-- The row of the arrays that a row of a point's block is. -/
def row (t : Fin cfg0.N) (r : Fin 512) : Fin 4096 := ⟨t.val * 512 + r.val, by have h : t.val < 8 := t.isLt; have h3 := r.isLt; omega⟩

theorem host_g (c : Dev nD) (z : Fin 1) (d : Fin 1024) :
    V m c main_v0 (ix2 z d : S1x1024.Idx) = inG m c (ix1 d) := by
  simp only [V, hostOps0, List.flatten_cons, List.flatten_nil, List.append_nil, List.cons_append, List.nil_append]
  after_reads_simp
  pointwise [inG]

theorem blk0 (c : Dev nD) (t : Fin cfg0.N) (r : Fin 512) (d : Fin 1024) :
    iblk m c 0 t (ix2 r d : S512x1024.Idx) = inX m c (ix2 (row t r) d) := by
  blk_simp [iblk]
  blk_ext [idx_val t, row]

theorem blk1 (c : Dev nD) (t : Fin cfg0.N) (r : Fin 512) (d : Fin 1024) :
    iblk m c 1 t (ix2 r d : S512x1024.Idx) = inT m c (ix2 (row t r) d) := by
  blk_simp [iblk]
  blk_ext [idx_val t, row]

theorem blk2 (c : Dev nD) (t : Fin cfg0.N) (z : Fin 1) (d : Fin 1024) :
    iblk m c 2 t (ix2 z d : S1x1024.Idx) = inG m c (ix1 d) := by
  rw [← host_g m c z d]
  blk_simp [iblk]
  blk_ext [idx_val t, row]

/-- Where a point's block of the output's gradient lies. -/
theorem emb4 (t : Fin cfg0.N) (y : S512x1024.Idx) :
    ((cfg0.win 4).blk t).view.emb y = (ix2 (row t (y 0)) (y 1) : S4096x1024.Idx) := by
  blk_ext [idx_val t, row]

/-- The rows' scale, as a point computes it. -/
theorem scaled (c : Dev nD) (t : Fin cfg0.N) (r : Fin 512) (z : Fin 1) :
    k0_pay6 (F := Ideal) (iblk m c 0 t) (ix2 r z : S512x1.Idx) = scale (inX m c) (row t r) := by
  pointwise [k0_pay6, blk0, scale]

/-- The scaled rows. -/
theorem rows (c : Dev nD) (t : Fin cfg0.N) (r : Fin 512) (d : Fin 1024) :
    k0_pay7 (F := Ideal) (iblk m c 0 t) (ix2 r d : S512x1024.Idx) = inX m c (ix2 (row t r) d) * scale (inX m c) (row t r) := by
  pointwise [k0_pay7, scaled, blk0]

/-- The misses. -/
theorem misses (c : Dev nD) (t : Fin cfg0.N) (r : Fin 512) (d : Fin 1024) :
    k0_pay8 (F := Ideal) (iblk m c 0 t) (iblk m c 2 t) (iblk m c 1 t) (ix2 r d : S512x1024.Idx)
      = miss (inX m c) (inT m c) (inG m c) (row t r) d := by
  pointwise [k0_pay8, k0_pay5, rows, blk1, blk2, miss]

/-- The slopes. -/
theorem slopes (c : Dev nD) (t : Fin cfg0.N) (r : Fin 512) (d : Fin 1024) :
    k0_pay10 (F := Ideal) (iblk m c 0 t) (iblk m c 2 t) (iblk m c 1 t) (ix2 r d : S512x1024.Idx)
      = slope (inX m c) (inT m c) (inG m c) (row t r) d := by
  pointwise [k0_pay10, misses, slope]

/-- A point's block of the output's gradient. -/
theorem block_entry (c : Dev nD) (t : Fin cfg0.N) (r : Fin 512) (d : Fin 1024) :
    k0_pay2 (F := Ideal) (k0_pay5 (F := Ideal) (iblk m c 2 t)) (k0_pay6 (F := Ideal) (iblk m c 0 t)) (k0_pay7 (F := Ideal) (iblk m c 0 t))
        (k0_pay10 (F := Ideal) (iblk m c 0 t) (iblk m c 2 t) (iblk m c 1 t)) (ix2 r d : S512x1024.Idx)
      = outputEntry (inX m c) (inT m c) (inG m c) (row t r) d := by
  pointwise [k0_pay2, k0_pay5, slopes, scaled, rows, blk2, outputEntry]

/-- What one point adds to a partial row of the gain's gradient. -/
def partGain (c : Dev nD) (t : Fin cfg0.N) (j : S8x1024.Idx) : EReal :=
  ∑ k : Fin 64, gainPart (inX m c) (inT m c) (inG m c) (row t ⟨k.val * 8 + (j 0).val, by have h : (j 0).val < 8 := (j 0).isLt; omega⟩) (j 1)

/-- The zero fill of the gain's gradient. -/
theorem zero_gain (j : S8x1024.Idx) : k0_pay4 (F := Ideal) j = 0 := by
  pointwise! [k0_pay4]

/-- One point adds its rows' products. -/
theorem step_gain (c : Dev nD) (t : Fin cfg0.N) (a : FVec Ideal S8x1024 .f32) (j : S8x1024.Idx) :
    k0_pay1 (F := Ideal) (k0_pay7 (F := Ideal) (iblk m c 0 t))
        (k0_pay10 (F := Ideal) (iblk m c 0 t) (iblk m c 2 t) (iblk m c 1 t)) a j
      = a j + partGain m c t j := by
  idx_vars j
  pointwise [k0_pay1, slopes, rows, partGain, gainPart]

/-- What one point adds to the loss. -/
def partLoss (c : Dev nD) (t : Fin cfg0.N) : EReal :=
  Ideal.ofBits .f32 0x3F000000#32 * ∑ r : Fin 512, rowLoss (inX m c) (inT m c) (inG m c) (row t r)

/-- The zero fill of the loss. -/
theorem zero_loss (j : S8x128.Idx) : k0_pay3 (F := Ideal) j = 0 := by
  pointwise! [k0_pay3]

/-- One point adds half its rows' mean squares. -/
theorem step_loss (c : Dev nD) (t : Fin cfg0.N) (a : FVec Ideal S8x128 .f32) (j : S8x128.Idx) :
    k0_pay9 (F := Ideal) (iblk m c 0 t) (iblk m c 2 t) (iblk m c 1 t) a j = a j + partLoss m c t := by
  idx_vars j
  pointwise [k0_pay9, misses, partLoss, rowLoss]
  exact congrArg _ (congrArg _ (Finset.sum_congr rfl fun r _ => Fin.sum_univ_one _))

set_option maxHeartbeats 1600000 in
/-- The second array is the output's gradient. -/
theorem final_4 (c : Dev nD) : (dats m 0 c).arrAt 4 (cfgs 0).N = outputGrad (inX m c) (inT m c) (inG m c) := by
  refine (dats m 0 c).arrAt_eq_of_covers 4 _ (by decide +kernel) fun t hf y => ?_
  rw [emb4]
  blk_simp; rw [after0_4]
  have ey : (y : S512x1024.Idx) = (ix2 (y 0) (y 1) : S512x1024.Idx) := by funext a; fin_cases a <;> rfl
  by_cases h : t.val % 8 = 0
  · rw [outsAt0_A m c t h]; frame_out
    exact (congrArg _ ey).trans (block_entry m c t (y 0) (y 1))
  · rw [outsAt0_B m c t h]; frame_out
    exact (congrArg _ ey).trans (block_entry m c t (y 0) (y 1))

/-- The eight partial rows of the gain's gradient. -/
def gainRows (c : Dev nD) : FVec Ideal ⟨2, ![8, 1024]⟩ .f32 := fun j => ∑ t : Fin 8, partGain m c t j

/-- The third array holds them. -/
theorem final_5 (c : Dev nD) : (dats m 0 c).arrAt 5 (cfgs 0).N = gainRows m c := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => 0)
    (fun t j => partGain m c t j)
    (fun t h j => by rw [outsAt0_A m c t h]; frame_out; rw [step_gain, zero_gain])
    (fun t h j => by rw [outsAt0_B m c t h]; frame_out; rw [step_gain])
    (le_of_eq N_0) t0_7 rfl j, zero_add]
  rfl

/-- The first array holds the loss in every entry. -/
def lossRows (c : Dev nD) : FVec Ideal ⟨2, ![8, 128]⟩ .f32 := fun _ => ∑ t : Fin 8, partLoss m c t

theorem final_3 (c : Dev nD) : (dats m 0 c).arrAt 3 (cfgs 0).N = lossRows m c := by
  refine (dats m 0 c).arrAt_eq_of_after_last 3 t0_7 (by decide +kernel) _ fun j => ?_
  blk_simp
  rw [after0_3, Pipeline.eq_sum_fin_of_reset_step_apply_last (fun n h => (outsAt0 m c n h).1) 8 (fun _ => 0)
    (fun t _ => partLoss m c t)
    (fun t h j => by rw [outsAt0_A m c t h]; frame_out; rw [step_loss, zero_loss])
    (fun t h j => by rw [outsAt0_B m c t h]; frame_out; rw [step_loss])
    (le_of_eq N_0) t0_7 rfl j, zero_add]
  rfl

/-- The partial rows' sum is the gain's gradient. -/
theorem gain_sum (c : Dev nD) (d : Fin 1024) :
    ∑ i : Fin 8, gainRows m c (ix2 i d) = finalGain (inX m c) (inT m c) (inG m c) (ix1 d) := by
  unfold gainRows partGain finalGain
  rw [Finset.sum_comm]
  refine Eq.trans (Finset.sum_congr rfl fun t _ => Finset.sum_comm) ?_
  have hb : ∀ t : Fin 8, ∑ k : Fin 64, ∑ i : Fin 8, gainPart (inX m c) (inT m c) (inG m c) (row t ⟨k.val * 8 + i.val, by omega⟩) d
      = ∑ r : Fin 512, gainPart (inX m c) (inT m c) (inG m c) (row t r) d := fun t =>
    Fin.sum_mul_add_congr fun s k hl => rfl
  refine (Finset.sum_congr rfl fun t _ => hb t).trans ?_
  exact Fin.sum_mul_add_congr fun s k hl => rfl

/-- The points' parts of the loss are together the loss. -/
theorem loss_sum (c : Dev nD) (j : (⟨2, ![8, 128]⟩ : Shape).Idx) (i : (⟨0, ![]⟩ : Shape).Idx) :
    lossRows m c j = loss (inX m c) (inT m c) (inG m c) i := by
  unfold lossRows partLoss loss
  rw [half_bits, ← mul_sum_real _ (by norm_num)]
  exact congrArg _ (Fin.sum_mul_add_congr fun s k hl => rfl)

end Cert.LossHead

end
-- ==== Proof.LossHead.Reference.lean ====
/- The reference of the loss and its gradients, read at an index. -/
module

public import proofs.«01_k».proof.Proof.Gen.Reference6Ideal.Read
public import proofs.«01_k».proof.Proof.LossHead.Spec

@[expose] public section

set_option maxRecDepth 16384

noncomputable section

open Idealize.ShloMosaic
open scoped BigOperators

namespace Cert.LossHead

open Cert.Projection Cert.InputGrad Cert.Reference6Ideal Cert.Reference6Ideal.Read

variable (x t : FVec Ideal Rows .f32) (g : FVec Ideal Gain .f32)

/-- The reference's mean square. -/
theorem ref_mean (s : Fin 4096) (z : Fin 1) :
    val_main_v6 (F := Ideal) x (ix2 s z : S4096x1.Idx) = meanSq fun e => x (ix2 s e) := by
  pointwise [val_main_v6, val_main_v5, val_main_v4, val_main_v3, val_main_v2, val_main_v1, val_main_v0, val_main_cst,
    val_main_cst_0, val_main_cst_1, meanSq]

/-- The reference's scaled rows. -/
theorem ref_scaled (s : Fin 4096) (d : Fin 1024) :
    val_main_v12 (F := Ideal) x (ix2 s d : S4096x1024.Idx) = x (ix2 s d) * scale x s := by
  pointwise [val_main_v12, val_main_v11, val_main_v7, ref_mean, meanSq, scale]

/-- The reference's misses. -/
theorem ref_miss (s : Fin 4096) (d : Fin 1024) :
    val_main_v16 (F := Ideal) x t g (ix2 s d : S4096x1024.Idx) = miss x t g s d := by
  pointwise [val_main_v16, val_main_v15, val_main_v14, val_main_v13, ref_scaled, miss]

/-- The reference's loss of a token. -/
theorem ref_rowLoss (s : Fin 4096) :
    val_main_v22 (F := Ideal) x t g (ix1 s : S4096.Idx) = rowLoss x t g s := by
  pointwise [val_main_v22, val_main_v21, val_main_v20, val_main_v17, val_main_cst_4, val_main_cst_5, ref_miss, rowLoss]

/-- The reference's first result. -/
theorem ref_v24 : val_main_v24 (F := Ideal) x t g = loss x t g := by
  funext i
  pointwise [val_main_v24, val_main_v23, val_main_cst_6, val_main_cst_7, ref_rowLoss, loss]

/-- The reference's slope. -/
theorem ref_slope (s : Fin 4096) (d : Fin 1024) :
    val_main_v30 (F := Ideal) x t g (ix2 s d : S4096x1024.Idx) = slope x t g s d := by
  pointwise [val_main_v30, val_main_v29, val_main_v28, val_main_v27, val_main_v26, val_main_v25, val_main_v19, val_main_v18,
    val_main_cst_3, val_main_cst_8, val_main_cst_9, val_main_cst_10, ref_miss, slope]
  exact half_two _

/-- The slope, times the gain. -/
theorem ref_gained (s : Fin 4096) (d : Fin 1024) :
    val_main_v35 (F := Ideal) x t g (ix2 s d : S4096x1024.Idx) = slope x t g s d * g (ix1 d) := by
  pointwise [val_main_v35, val_main_v34, val_main_v13, ref_slope]

/-- What the reference sends back through the mean square. -/
theorem ref_backMean (s : Fin 4096) (d : Fin 1024) :
    val_main_v46 (F := Ideal) x t g (ix2 s d : S4096x1024.Idx)
      = backMean (fun e => x (ix2 s e)) (fun e => slope x t g s e * g (ix1 e)) := by
  pointwise [val_main_v46, val_main_v45, val_main_v44, val_main_v43, val_main_v42, val_main_v39, val_main_v38, val_main_v37,
    val_main_v10, val_main_v9, val_main_v8, val_main_v7, val_main_cst_2, val_main_cst_13, val_main_cst_14, val_main_cst_15,
    ref_gained, ref_mean, backMean]
  exact Fin.sum_univ_one _

/-- The reference's second result. -/
theorem ref_v50 : val_main_v50 (F := Ideal) x t g = outputGrad x t g := by
  funext i; idx_vars i
  pointwise [val_main_v50, val_main_v49, val_main_v48, val_main_v47, val_main_v41, val_main_v40, val_main_v7,
    ref_backMean, ref_gained, ref_mean, outputGrad, outputEntry]
  rw [add_assoc]
  exact norm_back (fun e => x (ix2 i0 e)) (fun e => slope x t g i0 e * g (ix1 e)) i1

/-- The reference's third result. -/
theorem ref_v36 : val_main_v36 (F := Ideal) x t g = finalGain x t g := by
  funext i; idx_vars i
  pointwise [val_main_v36, val_main_v33, val_main_v32, val_main_v31, val_main_cst_11, val_main_cst_12, ref_scaled, ref_slope,
    finalGain, gainPart]
  exact (Fin.sum_univ_one _).trans (Finset.sum_congr rfl fun k _ => mul_comm _ _)

end Cert.LossHead
end
-- ==== Proof.LossHead.Claim.lean ====
/- The claims about the loss and its gradients, put together. -/
module

public import proofs.«01_k».proof.Defs
public import proofs.«01_k».proof.Proof.LossHead.Results
public import proofs.«01_k».proof.Proof.LossHead.Reference
public import proofs.«01_k».proof.Proof.Gen.Reference6Ideal.Run
public import Idealize.ShloMosaic.Lib.Quiescent
public import Idealize.ShloMosaic.Lib.Claim

@[expose] public section

set_option maxRecDepth 16384

noncomputable section

namespace Cert.LossHead

open Idealize.ShloMosaic Idealize.ShloMosaic.TcCoe Idealize.SL.Sem
open Cert.Projection Cert.Kernel6Ideal Cert.Kernel6Ideal.Gen
open scoped BigOperators

/-- The first lines after the call take one entry of the loss's array. -/
theorem tail_loss (m : (ℓ : Loc nD τ sig) → Buf (Elt Ideal) ℓ) (c : Dev nD) :
    Pipeline.afterTail₀ cfgs (dats m) 0 (V0 m) [hostOps1] c main_v3 = loss (inX m c) (inT m c) (inG m c) := by
  unfold Pipeline.afterTail₀
  simp only [hostOps1, List.flatten_cons, List.flatten_nil, List.append_nil, List.cons_append, List.nil_append]
  after_reads_simp
  have e : Pipeline.withArrays (cfgs 0).spec c (V0 m c) (fun w => (dats m 0 c).arrAt w (cfgs 0).N) (Proc.tc.devRef main_v1_0)
      = lossRows m c :=
    (Pipeline.withArrays_arr (cfgs 0).spec launch0.win.arr_inj c (V0 m c) _ 3).trans (final_3 m c)
  rw [e]
  funext i
  exact Eq.trans rfl (loss_sum m c (ix2 0 0) i)

/-- The last one sums the eight partial rows of the gain's gradient. -/
theorem tail_gain (m : (ℓ : Loc nD τ sig) → Buf (Elt Ideal) ℓ) (c : Dev nD) :
    Pipeline.afterTail₀ cfgs (dats m) 0 (V0 m) [hostOps1] c main_v4 = finalGain (inX m c) (inT m c) (inG m c) := by
  unfold Pipeline.afterTail₀
  simp only [hostOps1, List.flatten_cons, List.flatten_nil, List.append_nil, List.cons_append, List.nil_append]
  after_reads_simp
  have e : Pipeline.withArrays (cfgs 0).spec c (V0 m c) (fun w => (dats m 0 c).arrAt w (cfgs 0).N) (Proc.tc.devRef main_v1_2)
      = gainRows m c :=
    (Pipeline.withArrays_arr (cfgs 0).spec launch0.win.arr_inj c (V0 m c) _ 5).trans (final_5 m c)
  rw [e]
  funext i; idx_vars i
  rw [← gain_sum m c i0]
  pointwise []

/-- The reference leaves its arguments as they were. -/
theorem frame_reference : Cert.quiescent_Reference6Ideal := fun m ρ _ =>
  (θ_run Cert.Reference6Ideal.defs _ _).mono
    (fun r h => ⟨fun c => (h c).2.2.2, sem_eq_zero_of_no_sems (by decide) r.2⟩)
    (Cert.Reference6Ideal.Value.run (F := Ideal) m ρ)

/-- Both programs, from memories that agree on the arguments, end with the same results. -/
theorem algebraic : Cert.algebraic_Kernel6Ideal_Reference6Ideal := by
  intro m g m' g' _ h
  refine ⟨fun c => loss (inX m c) (inT m c) (inG m c), fun c => outputGrad (inX m c) (inT m c) (inG m c),
    fun c => finalGain (inX m c) (inT m c) (inG m c), ?_, ?_⟩
  · refine (θ_run Cert.Kernel6Ideal.defs _ _).mono (fun r k c => ?_) (θ_run_and (run_main m g) (unchanged m g))
    exact ⟨((k.1 c).2 main_v3 (Pipeline.mem_restRefs_of main_v3 (by decide) (by decide))).trans (tail_loss m c),
      ((k.1 c).1 4).trans (final_4 m c),
      ((k.1 c).2 main_v4 (Pipeline.mem_restRefs_of main_v4 (by decide) (by decide))).trans (tail_gain m c), k.2 c⟩
  · refine (θ_run Cert.Reference6Ideal.defs _ _).mono (fun r k c => ?_) (Cert.Reference6Ideal.Value.run (F := Ideal) m' g')
    obtain ⟨h0, h1, h2, args⟩ := k c
    obtain ⟨e0, e1, e2⟩ := h c
    refine ⟨h0.trans ((Cert.Reference6Ideal.Read.val_main_v24_eq ..).trans ((ref_v24 ..).trans ?_)),
      h1.trans ((Cert.Reference6Ideal.Read.val_main_v50_eq ..).trans ((ref_v50 ..).trans ?_)),
      h2.trans ((Cert.Reference6Ideal.Read.val_main_v36_eq ..).trans ((ref_v36 ..).trans ?_)), args⟩
    all_goals unfold inX inT inG; rw [e0, e1, e2]

end Cert.LossHead

end
-- ==== Proof.Optimiser.Spec.lean ====
/- One step of the optimiser on one weight, written as plain formulas over the extended reals. -/
module

public import Idealize.ShloMosaic.PureOps.Ideal
public import Idealize.ShloMosaic.Lib.Pointwise
public import Idealize.ShloMosaic.Lib.Pipeline.Value

@[expose] public section

noncomputable section

open Idealize.ShloMosaic

namespace Cert.Optimiser

/-- The new mean of the gradients. -/
def newMean (m g : EReal) : EReal :=
  Ideal.ofBits .f32 0x3F666666#32 * m + Ideal.ofBits .f32 0x3DCCCCCD#32 * g

/-- The new mean of their squares. -/
def newSquare (v g : EReal) : EReal :=
  Ideal.ofBits .f32 0x3F7FBE77#32 * v + Ideal.ofBits .f32 0x3A83126F#32 * (g * g)

/-- What is added to the weight: the corrected mean over the root of the corrected square, with the decay. -/
def change (w m v g : EReal) : EReal :=
  Ideal.ofBits .f32 0xBA83126F#32
    * (Ideal.div (Ideal.div (newMean m g) (Ideal.ofBits .f32 0x3F26BD02#32))
          (Ideal.sqrt (Ideal.div (newSquare v g) (Ideal.ofBits .f32 0x3C231ACC#32)) + Ideal.ofBits .f32 0x322BCC77#32)
        + Ideal.ofBits .f32 0x3C23D70A#32 * w)

variable {S T : Shape} (w m v g : FVec Ideal S .f32)

/-- The new means, as an array. -/
def means : FVec Ideal S .f32 := fun i => newMean (m i) (g i)

/-- The new means of the squares. -/
def squares : FVec Ideal S .f32 := fun i => newSquare (v i) (g i)

/-- The changes. -/
def changes : FVec Ideal S .f32 := fun i => change (w i) (m i) (v i) (g i)

/-- The new means of flattened arrays, put back into the first shape. -/
theorem means_flat (h : S.ShapeCasts T) (h' : T.ShapeCasts S) :
    shapeCast S (means (shapeCast T m h) (shapeCast T g h)) h' = means m g := by
  funext i
  simp [shapeCast, means, Shape.reshapeEquiv_reshapeEquiv]

/-- The new means of the squares likewise. -/
theorem squares_flat (h : S.ShapeCasts T) (h' : T.ShapeCasts S) :
    shapeCast S (squares (shapeCast T v h) (shapeCast T g h)) h' = squares v g := by
  funext i
  simp [shapeCast, squares, Shape.reshapeEquiv_reshapeEquiv]

/-- And the changes. -/
theorem changes_flat (h : S.ShapeCasts T) (h' : T.ShapeCasts S) :
    shapeCast S (changes (shapeCast T w h) (shapeCast T m h) (shapeCast T v h) (shapeCast T g h)) h' = changes w m v g := by
  funext i
  simp [shapeCast, changes, Shape.reshapeEquiv_reshapeEquiv]

end Cert.Optimiser

end
-- ==== Proof.Optimiser.InputWeight.lean ====
/- The optimiser's call on a device's columns of the input projection's weights. -/
module

public import proofs.«01_k».proof.Defs
public import proofs.«01_k».proof.Proof.Gen.Kernel7Ideal.Frame
public import proofs.«01_k».proof.Proof.Gen.Reference7Ideal.Run
public import proofs.«01_k».proof.Proof.Gen.Reference7Ideal.Read
public import proofs.«01_k».proof.Proof.Optimiser.Spec
public import Idealize.ShloMosaic.Lib.Pipeline.ValueKit
public import Idealize.ShloMosaic.Lib.Pipeline.ReadBack
public import Idealize.ShloMosaic.Lib.StableHlo.RunRead
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Optimiser.InputWeight

section Reference

open Cert.Reference7Ideal Cert.Reference7Ideal.Read

variable (w m v g : FVec Ideal S2x1024x1921 .f32)

/-- The reference's second result. -/
theorem ref_v4 : val_main_v4 (F := Ideal) m g = means m g := by
  funext i
  pointwise [val_main_v4, val_main_v3, val_main_v2, val_main_v1, val_main_v0, val_main_cst, val_main_cst_0, means, newMean]

/-- Its third. -/
theorem ref_v10 : val_main_v10 (F := Ideal) v g = squares v g := by
  funext i
  pointwise [val_main_v10, val_main_v9, val_main_v8, val_main_v7, val_main_v6, val_main_v5, val_main_cst_1, val_main_cst_2,
    squares, newSquare]

/-- Its first. -/
theorem ref_v23 : val_main_v23 (F := Ideal) w m v g = changes w m v g := by
  funext i
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7, ref_v4, ref_v10, means, squares, changes, change]

end Reference

open Cert.Kernel7Ideal Cert.Kernel7Ideal.Gen

variable (m : (ℓ : Loc nD τ sig) → Buf (Elt Ideal) ℓ)

/-- The weights, as the initial memory holds them on a device. -/
def inW (c : Dev nD) : FVec Ideal S2x1024x1921 .f32 := m ((c.tc : Thread nD τ).loc main_arg0)
/-- The means of the gradients. -/
def inM (c : Dev nD) : FVec Ideal S2x1024x1921 .f32 := m ((c.tc : Thread nD τ).loc main_arg1)
/-- The means of their squares. -/
def inV (c : Dev nD) : FVec Ideal S2x1024x1921 .f32 := m ((c.tc : Thread nD τ).loc main_arg2)
/-- The gradient. -/
def inG (c : Dev nD) : FVec Ideal S2x1024x1921 .f32 := m ((c.tc : Thread nD τ).loc main_arg3)

/-- An array with its layers one under the other. -/
abbrev flat (x : FVec Ideal S2x1024x1921 .f32) : FVec Ideal S2048x1921 .f32 := shapeCast S2048x1921 x shapeCasts_S2x1024x1921_S2048x1921

/-- The lines before the call lay its four arguments out so. -/
theorem host_args (c : Dev nD) : V m c main_v0 = flat (inW m c) ∧ V m c main_v1 = flat (inM m c)
    ∧ V m c main_v2 = flat (inV m c) ∧ V m c main_v3 = flat (inG m c) := by
  simp only [V, hostOps0, List.flatten_cons, List.flatten_nil, List.append_nil, List.cons_append, List.nil_append]
  refine ⟨?_, ?_, ?_, ?_⟩ <;> (after_reads_simp; rfl)

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- The entry of the arrays that an entry of a point's block is. -/
def at_ (t : Fin cfg0.N) (y : S128x1921.Idx) : S2048x1921.Idx :=
  ix2 ⟨t.val * 128 + (y 0).val, by have h : t.val < 16 := t.isLt; have h3 : (y 0).val < 128 := (y 0).isLt; omega⟩ (y 1)

theorem blk0 (c : Dev nD) (t : Fin cfg0.N) (y : S128x1921.Idx) : iblk m c 0 t y = flat (inW m c) (at_ t y) := by
  rw [← (host_args m c).1]
  blk_simp [iblk]
  blk_ext [idx_val t, at_]

theorem blk1 (c : Dev nD) (t : Fin cfg0.N) (y : S128x1921.Idx) : iblk m c 1 t y = flat (inM m c) (at_ t y) := by
  rw [← (host_args m c).2.1]
  blk_simp [iblk]
  blk_ext [idx_val t, at_]

theorem blk2 (c : Dev nD) (t : Fin cfg0.N) (y : S128x1921.Idx) : iblk m c 2 t y = flat (inV m c) (at_ t y) := by
  rw [← (host_args m c).2.2.1]
  blk_simp [iblk]
  blk_ext [idx_val t, at_]

theorem blk3 (c : Dev nD) (t : Fin cfg0.N) (y : S128x1921.Idx) : iblk m c 3 t y = flat (inG m c) (at_ t y) := by
  rw [← (host_args m c).2.2.2]
  blk_simp [iblk]
  blk_ext [idx_val t, at_]

/-- Where a point's blocks of the three results lie. -/
theorem emb4 (t : Fin cfg0.N) (y : S128x1921.Idx) : ((cfg0.win 4).blk t).view.emb y = at_ t y := by
  blk_ext [idx_val t, at_]

theorem emb5 (t : Fin cfg0.N) (y : S128x1921.Idx) : ((cfg0.win 5).blk t).view.emb y = at_ t y := by
  blk_ext [idx_val t, at_]

theorem emb6 (t : Fin cfg0.N) (y : S128x1921.Idx) : ((cfg0.win 6).blk t).view.emb y = at_ t y := by
  blk_ext [idx_val t, at_]

/-- A point's new means. -/
theorem mean_entry (g v : FVec Ideal S128x1921 .f32) (y : S128x1921.Idx) :
    k0_pay2 (F := Ideal) g v y = newMean (v y) (g y) := by
  pointwise [k0_pay2, k0_pay1, shapeCast_self, newMean]

/-- A point's new means of the squares. -/
theorem square_entry (g v : FVec Ideal S128x1921 .f32) (y : S128x1921.Idx) :
    k0_pay3 (F := Ideal) g v y = newSquare (v y) (g y) := by
  pointwise [k0_pay3, k0_pay1, shapeCast_self, newSquare]

/-- A point's changes. -/
theorem change_entry (g u v w : FVec Ideal S128x1921 .f32) (y : S128x1921.Idx) :
    k0_pay4 (F := Ideal) g u v w y = change (w y) (u y) (v y) (g y) := by
  pointwise [k0_pay4, mean_entry, square_entry, shapeCast_self, change]

/-- The first array holds the changes. -/
theorem final_4 (c : Dev nD) : (dats m 0 c).arrAt 4 (cfgs 0).N = changes (flat (inW m c)) (flat (inM m c)) (flat (inV m c)) (flat (inG m c)) := by
  refine (dats m 0 c).arrAt_eq_of_covers 4 _ (by decide +kernel) fun t hf y => ?_
  rw [emb4]
  blk_simp; rw [after0_4]; frame_out
  exact (change_entry _ _ _ _ y).trans (by rw [blk0, blk1, blk2, blk3]; rfl)

/-- The second array holds the new means. -/
theorem final_5 (c : Dev nD) : (dats m 0 c).arrAt 5 (cfgs 0).N = means (flat (inM m c)) (flat (inG m c)) := by
  refine (dats m 0 c).arrAt_eq_of_covers 5 _ (by decide +kernel) fun t hf y => ?_
  rw [emb5]
  blk_simp; rw [after0_5]; frame_out
  exact (mean_entry _ _ y).trans (by rw [blk1, blk3]; rfl)

/-- The third array holds the new means of the squares. -/
theorem final_6 (c : Dev nD) : (dats m 0 c).arrAt 6 (cfgs 0).N = squares (flat (inV m c)) (flat (inG m c)) := by
  refine (dats m 0 c).arrAt_eq_of_covers 6 _ (by decide +kernel) fun t hf y => ?_
  rw [emb6]
  blk_simp; rw [after0_6]; frame_out
  exact (square_entry _ _ y).trans (by rw [blk2, blk3]; rfl)

/-- The lines after the call put each of the three arrays back into its layers. -/
theorem tail_results (c : Dev nD) :
    Pipeline.afterTail₀ cfgs (dats m) 0 (V0 m) [hostOps1] c main_v5 = changes (inW m c) (inM m c) (inV m c) (inG m c)
    ∧ Pipeline.afterTail₀ cfgs (dats m) 0 (V0 m) [hostOps1] c main_v6 = means (inM m c) (inG m c)
    ∧ Pipeline.afterTail₀ cfgs (dats m) 0 (V0 m) [hostOps1] c main_v7 = squares (inV m c) (inG m c) := by
  have arr (w : Fin cfg0.W) := Pipeline.withArrays_arr (cfgs 0).spec launch0.win.arr_inj c (V0 m c)
    (fun w => (dats m 0 c).arrAt w (cfgs 0).N) w
  have e4 := (arr 4).trans (final_4 m c)
  have e5 := (arr 5).trans (final_5 m c)
  have e6 := (arr 6).trans (final_6 m c)
  unfold Pipeline.afterTail₀
  simp only [hostOps1, List.flatten_cons, List.flatten_nil, List.append_nil, List.cons_append, List.nil_append]
  refine ⟨?_, ?_, ?_⟩ <;> after_reads_simp
  · rw [← changes_flat _ _ _ _ shapeCasts_S2x1024x1921_S2048x1921 shapeCasts_S2048x1921_S2x1024x1921]
    exact congrArg (fun x => shapeCast S2x1024x1921 x shapeCasts_S2048x1921_S2x1024x1921) e4
  · rw [← means_flat _ _ shapeCasts_S2x1024x1921_S2048x1921 shapeCasts_S2048x1921_S2x1024x1921]
    exact congrArg (fun x => shapeCast S2x1024x1921 x shapeCasts_S2048x1921_S2x1024x1921) e5
  · rw [← squares_flat _ _ shapeCasts_S2x1024x1921_S2048x1921 shapeCasts_S2048x1921_S2x1024x1921]
    exact congrArg (fun x => shapeCast S2x1024x1921 x shapeCasts_S2048x1921_S2x1024x1921) e6

/-- The reference leaves its arguments as they were. -/
theorem frame_reference : Cert.quiescent_Reference7Ideal := fun m ρ _ =>
  (θ_run Cert.Reference7Ideal.defs _ _).mono
    (fun r h => ⟨fun c => (h c).2.2.2, sem_eq_zero_of_no_sems (by decide) r.2⟩)
    (Cert.Reference7Ideal.Value.run (F := Ideal) m ρ)

/-- Both programs, from memories that agree on the arguments, end with the same results. -/
theorem algebraic : Cert.algebraic_Kernel7Ideal_Reference7Ideal := by
  intro m g m' g' _ h
  refine ⟨fun c => changes (inW m c) (inM m c) (inV m c) (inG m c), fun c => means (inM m c) (inG m c),
    fun c => squares (inV m c) (inG m c), ?_, ?_⟩
  · refine (θ_run Cert.Kernel7Ideal.defs _ _).mono (fun r k c => ?_) (θ_run_and (run_main m g) (unchanged m g))
    obtain ⟨t0, t1, t2⟩ := tail_results m c
    have rest (b) (hb) := (k.1 c).2 b hb
    exact ⟨(rest main_v5 (Pipeline.mem_restRefs_of main_v5 (by decide) (by decide))).trans t0,
      (rest main_v6 (Pipeline.mem_restRefs_of main_v6 (by decide) (by decide))).trans t1,
      (rest main_v7 (Pipeline.mem_restRefs_of main_v7 (by decide) (by decide))).trans t2, k.2 c⟩
  · refine (θ_run Cert.Reference7Ideal.defs _ _).mono (fun r k c => ?_) (Cert.Reference7Ideal.Value.run (F := Ideal) m' g')
    obtain ⟨h0, h1, h2, args⟩ := k c
    obtain ⟨e0, e1, e2, e3⟩ := h c
    refine ⟨h0.trans ((Cert.Reference7Ideal.Read.val_main_v23_eq ..).trans ((ref_v23 ..).trans ?_)),
      h1.trans ((Cert.Reference7Ideal.Read.val_main_v4_eq ..).trans ((ref_v4 ..).trans ?_)),
      h2.trans ((Cert.Reference7Ideal.Read.val_main_v10_eq ..).trans ((ref_v10 ..).trans ?_)), args⟩
    · unfold inW inM inV inG; rw [e0, e1, e2, e3]
    · unfold inM inG; rw [e1, e3]
    · unfold inV inG; rw [e2, e3]

end Cert.Optimiser.InputWeight

end
-- ==== Proof.Optimiser.BranchWeight.lean ====
/- The optimiser's call on a device's columns of the branches' weights. -/
module

public import proofs.«01_k».proof.Defs
public import proofs.«01_k».proof.Proof.Gen.Kernel8Ideal.Frame
public import proofs.«01_k».proof.Proof.Gen.Reference8Ideal.Run
public import proofs.«01_k».proof.Proof.Gen.Reference8Ideal.Read
public import proofs.«01_k».proof.Proof.Optimiser.Spec
public import Idealize.ShloMosaic.Lib.Pipeline.ValueKit
public import Idealize.ShloMosaic.Lib.Pipeline.ReadBack
public import Idealize.ShloMosaic.Lib.StableHlo.RunRead
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Optimiser.BranchWeight

section Reference

open Cert.Reference8Ideal Cert.Reference8Ideal.Read

variable (w m v g : FVec Ideal S2x4x256x256 .f32)

/-- The reference's second result. -/
theorem ref_v4 : val_main_v4 (F := Ideal) m g = means m g := by
  funext i
  pointwise [val_main_v4, val_main_v3, val_main_v2, val_main_v1, val_main_v0, val_main_cst, val_main_cst_0, means, newMean]

/-- Its third. -/
theorem ref_v10 : val_main_v10 (F := Ideal) v g = squares v g := by
  funext i
  pointwise [val_main_v10, val_main_v9, val_main_v8, val_main_v7, val_main_v6, val_main_v5, val_main_cst_1, val_main_cst_2,
    squares, newSquare]

/-- Its first. -/
theorem ref_v23 : val_main_v23 (F := Ideal) w m v g = changes w m v g := by
  funext i
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7, ref_v4, ref_v10, means, squares, changes, change]

end Reference

open Cert.Kernel8Ideal Cert.Kernel8Ideal.Gen

variable (m : (ℓ : Loc nD τ sig) → Buf (Elt Ideal) ℓ)

/-- The weights, as the initial memory holds them on a device. -/
def inW (c : Dev nD) : FVec Ideal S2x4x256x256 .f32 := m ((c.tc : Thread nD τ).loc main_arg0)
/-- The means of the gradients. -/
def inM (c : Dev nD) : FVec Ideal S2x4x256x256 .f32 := m ((c.tc : Thread nD τ).loc main_arg1)
/-- The means of their squares. -/
def inV (c : Dev nD) : FVec Ideal S2x4x256x256 .f32 := m ((c.tc : Thread nD τ).loc main_arg2)
/-- The gradient. -/
def inG (c : Dev nD) : FVec Ideal S2x4x256x256 .f32 := m ((c.tc : Thread nD τ).loc main_arg3)

/-- An array with its layers and branches one under the other. -/
abbrev flat (x : FVec Ideal S2x4x256x256 .f32) : FVec Ideal S2048x256 .f32 := shapeCast S2048x256 x shapeCasts_S2x4x256x256_S2048x256

/-- The lines before the call lay its four arguments out so. -/
theorem host_args (c : Dev nD) : V m c main_v0 = flat (inW m c) ∧ V m c main_v1 = flat (inM m c)
    ∧ V m c main_v2 = flat (inV m c) ∧ V m c main_v3 = flat (inG m c) := by
  simp only [V, hostOps0, List.flatten_cons, List.flatten_nil, List.append_nil, List.cons_append, List.nil_append]
  refine ⟨?_, ?_, ?_, ?_⟩ <;> (after_reads_simp; rfl)

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- The entry of the arrays that an entry of a point's block is. -/
def at_ (t : Fin cfg0.N) (y : S1024x256.Idx) : S2048x256.Idx :=
  ix2 ⟨t.val * 1024 + (y 0).val, by have h : t.val < 2 := t.isLt; have h3 : (y 0).val < 1024 := (y 0).isLt; omega⟩ (y 1)

theorem blk0 (c : Dev nD) (t : Fin cfg0.N) (y : S1024x256.Idx) : iblk m c 0 t y = flat (inW m c) (at_ t y) := by
  rw [← (host_args m c).1]
  blk_simp [iblk]
  blk_ext [idx_val t, at_]

theorem blk1 (c : Dev nD) (t : Fin cfg0.N) (y : S1024x256.Idx) : iblk m c 1 t y = flat (inM m c) (at_ t y) := by
  rw [← (host_args m c).2.1]
  blk_simp [iblk]
  blk_ext [idx_val t, at_]

theorem blk2 (c : Dev nD) (t : Fin cfg0.N) (y : S1024x256.Idx) : iblk m c 2 t y = flat (inV m c) (at_ t y) := by
  rw [← (host_args m c).2.2.1]
  blk_simp [iblk]
  blk_ext [idx_val t, at_]

theorem blk3 (c : Dev nD) (t : Fin cfg0.N) (y : S1024x256.Idx) : iblk m c 3 t y = flat (inG m c) (at_ t y) := by
  rw [← (host_args m c).2.2.2]
  blk_simp [iblk]
  blk_ext [idx_val t, at_]

/-- Where a point's blocks of the three results lie. -/
theorem emb4 (t : Fin cfg0.N) (y : S1024x256.Idx) : ((cfg0.win 4).blk t).view.emb y = at_ t y := by
  blk_ext [idx_val t, at_]

theorem emb5 (t : Fin cfg0.N) (y : S1024x256.Idx) : ((cfg0.win 5).blk t).view.emb y = at_ t y := by
  blk_ext [idx_val t, at_]

theorem emb6 (t : Fin cfg0.N) (y : S1024x256.Idx) : ((cfg0.win 6).blk t).view.emb y = at_ t y := by
  blk_ext [idx_val t, at_]

/-- A point's new means. -/
theorem mean_entry (g v : FVec Ideal S1024x256 .f32) (y : S1024x256.Idx) :
    k0_pay2 (F := Ideal) g v y = newMean (v y) (g y) := by
  pointwise [k0_pay2, k0_pay1, shapeCast_self, newMean]

/-- A point's new means of the squares. -/
theorem square_entry (g v : FVec Ideal S1024x256 .f32) (y : S1024x256.Idx) :
    k0_pay3 (F := Ideal) g v y = newSquare (v y) (g y) := by
  pointwise [k0_pay3, k0_pay1, shapeCast_self, newSquare]

/-- A point's changes. -/
theorem change_entry (g u v w : FVec Ideal S1024x256 .f32) (y : S1024x256.Idx) :
    k0_pay4 (F := Ideal) g u v w y = change (w y) (u y) (v y) (g y) := by
  pointwise [k0_pay4, mean_entry, square_entry, shapeCast_self, change]

/-- The first array holds the changes. -/
theorem final_4 (c : Dev nD) : (dats m 0 c).arrAt 4 (cfgs 0).N = changes (flat (inW m c)) (flat (inM m c)) (flat (inV m c)) (flat (inG m c)) := by
  refine (dats m 0 c).arrAt_eq_of_covers 4 _ (by decide +kernel) fun t hf y => ?_
  rw [emb4]
  blk_simp; rw [after0_4]; frame_out
  exact (change_entry _ _ _ _ y).trans (by rw [blk0, blk1, blk2, blk3]; rfl)

/-- The second array holds the new means. -/
theorem final_5 (c : Dev nD) : (dats m 0 c).arrAt 5 (cfgs 0).N = means (flat (inM m c)) (flat (inG m c)) := by
  refine (dats m 0 c).arrAt_eq_of_covers 5 _ (by decide +kernel) fun t hf y => ?_
  rw [emb5]
  blk_simp; rw [after0_5]; frame_out
  exact (mean_entry _ _ y).trans (by rw [blk1, blk3]; rfl)

/-- The third array holds the new means of the squares. -/
theorem final_6 (c : Dev nD) : (dats m 0 c).arrAt 6 (cfgs 0).N = squares (flat (inV m c)) (flat (inG m c)) := by
  refine (dats m 0 c).arrAt_eq_of_covers 6 _ (by decide +kernel) fun t hf y => ?_
  rw [emb6]
  blk_simp; rw [after0_6]; frame_out
  exact (square_entry _ _ y).trans (by rw [blk2, blk3]; rfl)

/-- The lines after the call put each of the three arrays back into its shape. -/
theorem tail_results (c : Dev nD) :
    Pipeline.afterTail₀ cfgs (dats m) 0 (V0 m) [hostOps1] c main_v5 = changes (inW m c) (inM m c) (inV m c) (inG m c)
    ∧ Pipeline.afterTail₀ cfgs (dats m) 0 (V0 m) [hostOps1] c main_v6 = means (inM m c) (inG m c)
    ∧ Pipeline.afterTail₀ cfgs (dats m) 0 (V0 m) [hostOps1] c main_v7 = squares (inV m c) (inG m c) := by
  have arr (w : Fin cfg0.W) := Pipeline.withArrays_arr (cfgs 0).spec launch0.win.arr_inj c (V0 m c)
    (fun w => (dats m 0 c).arrAt w (cfgs 0).N) w
  have e4 := (arr 4).trans (final_4 m c)
  have e5 := (arr 5).trans (final_5 m c)
  have e6 := (arr 6).trans (final_6 m c)
  unfold Pipeline.afterTail₀
  simp only [hostOps1, List.flatten_cons, List.flatten_nil, List.append_nil, List.cons_append, List.nil_append]
  refine ⟨?_, ?_, ?_⟩ <;> after_reads_simp
  · rw [← changes_flat _ _ _ _ shapeCasts_S2x4x256x256_S2048x256 shapeCasts_S2048x256_S2x4x256x256]
    exact congrArg (fun x => shapeCast S2x4x256x256 x shapeCasts_S2048x256_S2x4x256x256) e4
  · rw [← means_flat _ _ shapeCasts_S2x4x256x256_S2048x256 shapeCasts_S2048x256_S2x4x256x256]
    exact congrArg (fun x => shapeCast S2x4x256x256 x shapeCasts_S2048x256_S2x4x256x256) e5
  · rw [← squares_flat _ _ shapeCasts_S2x4x256x256_S2048x256 shapeCasts_S2048x256_S2x4x256x256]
    exact congrArg (fun x => shapeCast S2x4x256x256 x shapeCasts_S2048x256_S2x4x256x256) e6

/-- The reference leaves its arguments as they were. -/
theorem frame_reference : Cert.quiescent_Reference8Ideal := fun m ρ _ =>
  (θ_run Cert.Reference8Ideal.defs _ _).mono
    (fun r h => ⟨fun c => (h c).2.2.2, sem_eq_zero_of_no_sems (by decide) r.2⟩)
    (Cert.Reference8Ideal.Value.run (F := Ideal) m ρ)

/-- Both programs, from memories that agree on the arguments, end with the same results. -/
theorem algebraic : Cert.algebraic_Kernel8Ideal_Reference8Ideal := by
  intro m g m' g' _ h
  refine ⟨fun c => changes (inW m c) (inM m c) (inV m c) (inG m c), fun c => means (inM m c) (inG m c),
    fun c => squares (inV m c) (inG m c), ?_, ?_⟩
  · refine (θ_run Cert.Kernel8Ideal.defs _ _).mono (fun r k c => ?_) (θ_run_and (run_main m g) (unchanged m g))
    obtain ⟨t0, t1, t2⟩ := tail_results m c
    have rest (b) (hb) := (k.1 c).2 b hb
    exact ⟨(rest main_v5 (Pipeline.mem_restRefs_of main_v5 (by decide) (by decide))).trans t0,
      (rest main_v6 (Pipeline.mem_restRefs_of main_v6 (by decide) (by decide))).trans t1,
      (rest main_v7 (Pipeline.mem_restRefs_of main_v7 (by decide) (by decide))).trans t2, k.2 c⟩
  · refine (θ_run Cert.Reference8Ideal.defs _ _).mono (fun r k c => ?_) (Cert.Reference8Ideal.Value.run (F := Ideal) m' g')
    obtain ⟨h0, h1, h2, args⟩ := k c
    obtain ⟨e0, e1, e2, e3⟩ := h c
    refine ⟨h0.trans ((Cert.Reference8Ideal.Read.val_main_v23_eq ..).trans ((ref_v23 ..).trans ?_)),
      h1.trans ((Cert.Reference8Ideal.Read.val_main_v4_eq ..).trans ((ref_v4 ..).trans ?_)),
      h2.trans ((Cert.Reference8Ideal.Read.val_main_v10_eq ..).trans ((ref_v10 ..).trans ?_)), args⟩
    · unfold inW inM inV inG; rw [e0, e1, e2, e3]
    · unfold inM inG; rw [e1, e3]
    · unfold inV inG; rw [e2, e3]

end Cert.Optimiser.BranchWeight

end
-- ==== Proof.Optimiser.OutputWeight.lean ====
/- The optimiser's call on a device's rows of the output's weights. -/
module

public import proofs.«01_k».proof.Defs
public import proofs.«01_k».proof.Proof.Gen.Kernel9Ideal.Frame
public import proofs.«01_k».proof.Proof.Gen.Reference9Ideal.Run
public import proofs.«01_k».proof.Proof.Gen.Reference9Ideal.Read
public import proofs.«01_k».proof.Proof.Optimiser.Spec
public import Idealize.ShloMosaic.Lib.Pipeline.ValueKit
public import Idealize.ShloMosaic.Lib.Pipeline.ReadBack
public import Idealize.ShloMosaic.Lib.StableHlo.RunRead
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Optimiser.OutputWeight

section Reference

open Cert.Reference9Ideal Cert.Reference9Ideal.Read

variable (w m v g : FVec Ideal S2x256x1024 .f32)

/-- The reference's second result. -/
theorem ref_v4 : val_main_v4 (F := Ideal) m g = means m g := by
  funext i
  pointwise [val_main_v4, val_main_v3, val_main_v2, val_main_v1, val_main_v0, val_main_cst, val_main_cst_0, means, newMean]

/-- Its third. -/
theorem ref_v10 : val_main_v10 (F := Ideal) v g = squares v g := by
  funext i
  pointwise [val_main_v10, val_main_v9, val_main_v8, val_main_v7, val_main_v6, val_main_v5, val_main_cst_1, val_main_cst_2,
    squares, newSquare]

/-- Its first. -/
theorem ref_v23 : val_main_v23 (F := Ideal) w m v g = changes w m v g := by
  funext i
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7, ref_v4, ref_v10, means, squares, changes, change]

end Reference

open Cert.Kernel9Ideal Cert.Kernel9Ideal.Gen

variable (m : (ℓ : Loc nD τ sig) → Buf (Elt Ideal) ℓ)

/-- The weights, as the initial memory holds them on a device. -/
def inW (c : Dev nD) : FVec Ideal S2x256x1024 .f32 := m ((c.tc : Thread nD τ).loc main_arg0)
/-- The means of the gradients. -/
def inM (c : Dev nD) : FVec Ideal S2x256x1024 .f32 := m ((c.tc : Thread nD τ).loc main_arg1)
/-- The means of their squares. -/
def inV (c : Dev nD) : FVec Ideal S2x256x1024 .f32 := m ((c.tc : Thread nD τ).loc main_arg2)
/-- The gradient. -/
def inG (c : Dev nD) : FVec Ideal S2x256x1024 .f32 := m ((c.tc : Thread nD τ).loc main_arg3)

/-- An array with its layers one under the other. -/
abbrev flat (x : FVec Ideal S2x256x1024 .f32) : FVec Ideal S512x1024 .f32 := shapeCast S512x1024 x shapeCasts_S2x256x1024_S512x1024

/-- The lines before the call lay its four arguments out so. -/
theorem host_args (c : Dev nD) : V m c main_v0 = flat (inW m c) ∧ V m c main_v1 = flat (inM m c)
    ∧ V m c main_v2 = flat (inV m c) ∧ V m c main_v3 = flat (inG m c) := by
  simp only [V, hostOps0, List.flatten_cons, List.flatten_nil, List.append_nil, List.cons_append, List.nil_append]
  refine ⟨?_, ?_, ?_, ?_⟩ <;> (after_reads_simp; rfl)

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- The entry of the arrays that an entry of a point's block is. -/
def at_ (t : Fin cfg0.N) (y : S256x1024.Idx) : S512x1024.Idx :=
  ix2 ⟨t.val * 256 + (y 0).val, by have h : t.val < 2 := t.isLt; have h3 : (y 0).val < 256 := (y 0).isLt; omega⟩ (y 1)

theorem blk0 (c : Dev nD) (t : Fin cfg0.N) (y : S256x1024.Idx) : iblk m c 0 t y = flat (inW m c) (at_ t y) := by
  rw [← (host_args m c).1]
  blk_simp [iblk]
  blk_ext [idx_val t, at_]

theorem blk1 (c : Dev nD) (t : Fin cfg0.N) (y : S256x1024.Idx) : iblk m c 1 t y = flat (inM m c) (at_ t y) := by
  rw [← (host_args m c).2.1]
  blk_simp [iblk]
  blk_ext [idx_val t, at_]

theorem blk2 (c : Dev nD) (t : Fin cfg0.N) (y : S256x1024.Idx) : iblk m c 2 t y = flat (inV m c) (at_ t y) := by
  rw [← (host_args m c).2.2.1]
  blk_simp [iblk]
  blk_ext [idx_val t, at_]

theorem blk3 (c : Dev nD) (t : Fin cfg0.N) (y : S256x1024.Idx) : iblk m c 3 t y = flat (inG m c) (at_ t y) := by
  rw [← (host_args m c).2.2.2]
  blk_simp [iblk]
  blk_ext [idx_val t, at_]

/-- Where a point's blocks of the three results lie. -/
theorem emb4 (t : Fin cfg0.N) (y : S256x1024.Idx) : ((cfg0.win 4).blk t).view.emb y = at_ t y := by
  blk_ext [idx_val t, at_]

theorem emb5 (t : Fin cfg0.N) (y : S256x1024.Idx) : ((cfg0.win 5).blk t).view.emb y = at_ t y := by
  blk_ext [idx_val t, at_]

theorem emb6 (t : Fin cfg0.N) (y : S256x1024.Idx) : ((cfg0.win 6).blk t).view.emb y = at_ t y := by
  blk_ext [idx_val t, at_]

/-- A point's new means. -/
theorem mean_entry (g v : FVec Ideal S256x1024 .f32) (y : S256x1024.Idx) :
    k0_pay2 (F := Ideal) g v y = newMean (v y) (g y) := by
  pointwise [k0_pay2, k0_pay1, shapeCast_self, newMean]

/-- A point's new means of the squares. -/
theorem square_entry (g v : FVec Ideal S256x1024 .f32) (y : S256x1024.Idx) :
    k0_pay3 (F := Ideal) g v y = newSquare (v y) (g y) := by
  pointwise [k0_pay3, k0_pay1, shapeCast_self, newSquare]

/-- A point's changes. -/
theorem change_entry (g u v w : FVec Ideal S256x1024 .f32) (y : S256x1024.Idx) :
    k0_pay4 (F := Ideal) g u v w y = change (w y) (u y) (v y) (g y) := by
  pointwise [k0_pay4, mean_entry, square_entry, shapeCast_self, change]

/-- The first array holds the changes. -/
theorem final_4 (c : Dev nD) : (dats m 0 c).arrAt 4 (cfgs 0).N = changes (flat (inW m c)) (flat (inM m c)) (flat (inV m c)) (flat (inG m c)) := by
  refine (dats m 0 c).arrAt_eq_of_covers 4 _ (by decide +kernel) fun t hf y => ?_
  rw [emb4]
  blk_simp; rw [after0_4]; frame_out
  exact (change_entry _ _ _ _ y).trans (by rw [blk0, blk1, blk2, blk3]; rfl)

/-- The second array holds the new means. -/
theorem final_5 (c : Dev nD) : (dats m 0 c).arrAt 5 (cfgs 0).N = means (flat (inM m c)) (flat (inG m c)) := by
  refine (dats m 0 c).arrAt_eq_of_covers 5 _ (by decide +kernel) fun t hf y => ?_
  rw [emb5]
  blk_simp; rw [after0_5]; frame_out
  exact (mean_entry _ _ y).trans (by rw [blk1, blk3]; rfl)

/-- The third array holds the new means of the squares. -/
theorem final_6 (c : Dev nD) : (dats m 0 c).arrAt 6 (cfgs 0).N = squares (flat (inV m c)) (flat (inG m c)) := by
  refine (dats m 0 c).arrAt_eq_of_covers 6 _ (by decide +kernel) fun t hf y => ?_
  rw [emb6]
  blk_simp; rw [after0_6]; frame_out
  exact (square_entry _ _ y).trans (by rw [blk2, blk3]; rfl)

/-- The lines after the call put each of the three arrays back into its shape. -/
theorem tail_results (c : Dev nD) :
    Pipeline.afterTail₀ cfgs (dats m) 0 (V0 m) [hostOps1] c main_v5 = changes (inW m c) (inM m c) (inV m c) (inG m c)
    ∧ Pipeline.afterTail₀ cfgs (dats m) 0 (V0 m) [hostOps1] c main_v6 = means (inM m c) (inG m c)
    ∧ Pipeline.afterTail₀ cfgs (dats m) 0 (V0 m) [hostOps1] c main_v7 = squares (inV m c) (inG m c) := by
  have arr (w : Fin cfg0.W) := Pipeline.withArrays_arr (cfgs 0).spec launch0.win.arr_inj c (V0 m c)
    (fun w => (dats m 0 c).arrAt w (cfgs 0).N) w
  have e4 := (arr 4).trans (final_4 m c)
  have e5 := (arr 5).trans (final_5 m c)
  have e6 := (arr 6).trans (final_6 m c)
  unfold Pipeline.afterTail₀
  simp only [hostOps1, List.flatten_cons, List.flatten_nil, List.append_nil, List.cons_append, List.nil_append]
  refine ⟨?_, ?_, ?_⟩ <;> after_reads_simp
  · rw [← changes_flat _ _ _ _ shapeCasts_S2x256x1024_S512x1024 shapeCasts_S512x1024_S2x256x1024]
    exact congrArg (fun x => shapeCast S2x256x1024 x shapeCasts_S512x1024_S2x256x1024) e4
  · rw [← means_flat _ _ shapeCasts_S2x256x1024_S512x1024 shapeCasts_S512x1024_S2x256x1024]
    exact congrArg (fun x => shapeCast S2x256x1024 x shapeCasts_S512x1024_S2x256x1024) e5
  · rw [← squares_flat _ _ shapeCasts_S2x256x1024_S512x1024 shapeCasts_S512x1024_S2x256x1024]
    exact congrArg (fun x => shapeCast S2x256x1024 x shapeCasts_S512x1024_S2x256x1024) e6

/-- The reference leaves its arguments as they were. -/
theorem frame_reference : Cert.quiescent_Reference9Ideal := fun m ρ _ =>
  (θ_run Cert.Reference9Ideal.defs _ _).mono
    (fun r h => ⟨fun c => (h c).2.2.2, sem_eq_zero_of_no_sems (by decide) r.2⟩)
    (Cert.Reference9Ideal.Value.run (F := Ideal) m ρ)

/-- Both programs, from memories that agree on the arguments, end with the same results. -/
theorem algebraic : Cert.algebraic_Kernel9Ideal_Reference9Ideal := by
  intro m g m' g' _ h
  refine ⟨fun c => changes (inW m c) (inM m c) (inV m c) (inG m c), fun c => means (inM m c) (inG m c),
    fun c => squares (inV m c) (inG m c), ?_, ?_⟩
  · refine (θ_run Cert.Kernel9Ideal.defs _ _).mono (fun r k c => ?_) (θ_run_and (run_main m g) (unchanged m g))
    obtain ⟨t0, t1, t2⟩ := tail_results m c
    have rest (b) (hb) := (k.1 c).2 b hb
    exact ⟨(rest main_v5 (Pipeline.mem_restRefs_of main_v5 (by decide) (by decide))).trans t0,
      (rest main_v6 (Pipeline.mem_restRefs_of main_v6 (by decide) (by decide))).trans t1,
      (rest main_v7 (Pipeline.mem_restRefs_of main_v7 (by decide) (by decide))).trans t2, k.2 c⟩
  · refine (θ_run Cert.Reference9Ideal.defs _ _).mono (fun r k c => ?_) (Cert.Reference9Ideal.Value.run (F := Ideal) m' g')
    obtain ⟨h0, h1, h2, args⟩ := k c
    obtain ⟨e0, e1, e2, e3⟩ := h c
    refine ⟨h0.trans ((Cert.Reference9Ideal.Read.val_main_v23_eq ..).trans ((ref_v23 ..).trans ?_)),
      h1.trans ((Cert.Reference9Ideal.Read.val_main_v4_eq ..).trans ((ref_v4 ..).trans ?_)),
      h2.trans ((Cert.Reference9Ideal.Read.val_main_v10_eq ..).trans ((ref_v10 ..).trans ?_)), args⟩
    · unfold inW inM inV inG; rw [e0, e1, e2, e3]
    · unfold inM inG; rw [e1, e3]
    · unfold inV inG; rw [e2, e3]

end Cert.Optimiser.OutputWeight

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Merge.Claim
public import proofs.«01_k».proof.Proof.Projection.Claim
public import proofs.«01_k».proof.Proof.MergeForward.Claim
public import proofs.«01_k».proof.Proof.WeightGrad.Claim
public import proofs.«01_k».proof.Proof.InputGrad.Claim
public import proofs.«01_k».proof.Proof.LossHead.Claim
public import proofs.«01_k».proof.Proof.Optimiser.InputWeight
public import proofs.«01_k».proof.Proof.Optimiser.BranchWeight
public import proofs.«01_k».proof.Proof.Optimiser.OutputWeight
public import Idealize.ShloMosaic.Adequacy
public import Idealize.ShloMosaic.Init

@[expose] public section

noncomputable section

namespace Cert.Proof

open Idealize.ShloMosaic Idealize.SL.Sem Cert.Kernel

/-- Everything claimed: the frames of the programs, the idealisations, and the values. -/
theorem claim : Cert.Claim :=
  haveI := Cert.Merge.mask_facts
  haveI := Cert.WeightGrad.mask_facts
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Merge.mask_facts, Cert.WeightGrad.mask_facts,
    fun m ρ _ => Cert.Kernel.Gen.frame m ρ, fun m ρ _ => Cert.KernelIdeal.Gen.frame m ρ, Cert.Merge.frame_reference,
    Cert.WeightGrad.frame_kernel, fun m ρ _ => Cert.WeightGrad.run_frame m ρ, Cert.WeightGrad.frame_reference,
    fun m ρ _ => Cert.Kernel3.Gen.frame m ρ, fun m ρ _ => Cert.Kernel3Ideal.Gen.frame m ρ, Cert.Projection.frame_reference,
    fun m ρ _ => Cert.Kernel4.Gen.frame m ρ, fun m ρ _ => Cert.Kernel4Ideal.Gen.frame m ρ, Cert.Merge.Forward.frame_reference,
    fun m ρ _ => Cert.Kernel5.Gen.frame m ρ, fun m ρ _ => Cert.Kernel5Ideal.Gen.frame m ρ, Cert.InputGrad.frame_reference,
    fun m ρ _ => Cert.Kernel6.Gen.frame m ρ, fun m ρ _ => Cert.Kernel6Ideal.Gen.frame m ρ, Cert.LossHead.frame_reference,
    fun m ρ _ => Cert.Kernel7.Gen.frame m ρ, fun m ρ _ => Cert.Kernel7Ideal.Gen.frame m ρ, Cert.Optimiser.InputWeight.frame_reference,
    fun m ρ _ => Cert.Kernel8.Gen.frame m ρ, fun m ρ _ => Cert.Kernel8Ideal.Gen.frame m ρ, Cert.Optimiser.BranchWeight.frame_reference,
    fun m ρ _ => Cert.Kernel9.Gen.frame m ρ, fun m ρ _ => Cert.Kernel9Ideal.Gen.frame m ρ, Cert.Optimiser.OutputWeight.frame_reference,
    trivial, Cert.Merge.algebraic, trivial, Cert.WeightGrad.algebraic, trivial, Cert.Projection.algebraic, trivial, Cert.Merge.Forward.algebraic,
    trivial, Cert.InputGrad.algebraic, trivial, Cert.LossHead.algebraic, trivial, Cert.Optimiser.InputWeight.algebraic,
    trivial, Cert.Optimiser.BranchWeight.algebraic, trivial, Cert.Optimiser.OutputWeight.algebraic⟩

end Cert.Proof

end
